-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x5120 : Shape := ⟨3, ![2, 128, 5120]⟩
abbrev S2x128 : Shape := ⟨2, ![2, 128]⟩
abbrev S5120 : Shape := ⟨1, ![5120]⟩
abbrev S5120x10240 : Shape := ⟨2, ![5120, 10240]⟩
abbrev S10240 : Shape := ⟨1, ![10240]⟩
abbrev S160 : Shape := ⟨1, ![160]⟩
abbrev S256x5120 : Shape := ⟨2, ![256, 5120]⟩
abbrev S1x5120 : Shape := ⟨2, ![1, 5120]⟩
abbrev S1x10240 : Shape := ⟨2, ![1, 10240]⟩
abbrev S1x160 : Shape := ⟨2, ![1, 160]⟩
abbrev S2x48x160x128 : Shape := ⟨4, ![2, 48, 160, 128]⟩
abbrev S2x8x160x128 : Shape := ⟨4, ![2, 8, 160, 128]⟩
abbrev S2x8x128 : Shape := ⟨3, ![2, 8, 128]⟩
abbrev S8x5120x512 : Shape := ⟨3, ![8, 5120, 512]⟩
abbrev S256x128 : Shape := ⟨2, ![256, 128]⟩
abbrev S2x80x128 : Shape := ⟨3, ![2, 80, 128]⟩
abbrev S160x128 : Shape := ⟨2, ![160, 128]⟩
abbrev S2x256x512 : Shape := ⟨3, ![2, 256, 512]⟩
abbrev S2x2560x128 : Shape := ⟨3, ![2, 2560, 128]⟩
abbrev S4 : Shape := ⟨1, ![4]⟩
abbrev S8 : Shape := ⟨1, ![8]⟩
abbrev S5 : Shape := ⟨1, ![5]⟩
abbrev S36 : Shape := ⟨1, ![36]⟩
abbrev S1 : Shape := ⟨1, ![1]⟩
abbrev S_ : Shape := ⟨0, ![]⟩
abbrev S64x5120 : Shape := ⟨2, ![64, 5120]⟩
abbrev S1x5120x512 : Shape := ⟨3, ![1, 5120, 512]⟩
abbrev S5120x512 : Shape := ⟨2, ![5120, 512]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S1x253 : Shape := ⟨2, ![1, 253]⟩
abbrev S32x253 : Shape := ⟨2, ![32, 253]⟩
abbrev S256x512 : Shape := ⟨2, ![256, 512]⟩
abbrev S1x256x512 : Shape := ⟨3, ![1, 256, 512]⟩
abbrev S80x128 : Shape := ⟨2, ![80, 128]⟩
abbrev S1x80x128 : Shape := ⟨3, ![1, 80, 128]⟩
abbrev S128x128 : Shape := ⟨2, ![128, 128]⟩
abbrev S8x128 : Shape := ⟨2, ![8, 128]⟩
abbrev S1x8x128 : Shape := ⟨3, ![1, 8, 128]⟩
abbrev S128x160 : Shape := ⟨2, ![128, 160]⟩
abbrev S1x128x128 : Shape := ⟨3, ![1, 128, 128]⟩
abbrev S1x160x128 : Shape := ⟨3, ![1, 160, 128]⟩
abbrev S1x1x128 : Shape := ⟨3, ![1, 1, 128]⟩
abbrev S128 : Shape := ⟨1, ![128]⟩
abbrev S1x1x80x128 : Shape := ⟨4, ![1, 1, 80, 128]⟩
abbrev S1x3x160x128 : Shape := ⟨4, ![1, 3, 160, 128]⟩
abbrev S3x160x128 : Shape := ⟨3, ![3, 160, 128]⟩
abbrev S1x4x160x128 : Shape := ⟨4, ![1, 4, 160, 128]⟩
abbrev S4x160x128 : Shape := ⟨3, ![4, 160, 128]⟩
abbrev S253x1 : Shape := ⟨2, ![253, 1]⟩
abbrev S253x128 : Shape := ⟨2, ![253, 128]⟩
abbrev S1x1x160x128 : Shape := ⟨4, ![1, 1, 160, 128]⟩
abbrev S2x128x48x160 : Shape := ⟨4, ![2, 128, 48, 160]⟩
abbrev S2x128x8x160 : Shape := ⟨4, ![2, 128, 8, 160]⟩
abbrev S2x128x8 : Shape := ⟨3, ![2, 128, 8]⟩

abbrev nBuf : Space → Nat
  | .hbm => 25
  | .vmem => 22
  | .smem => 0
  | _ => 0

abbrev bufTy : (tb : Table) → Fin (tcTables nBuf tb) → BufTy
  | .hbm, ⟨0, _⟩ => ⟨S2x128x5120, .bf16⟩
  | .hbm, ⟨1, _⟩ => ⟨S2x128, .i32⟩
  | .hbm, ⟨2, _⟩ => ⟨S5120, .f32⟩
  | .hbm, ⟨3, _⟩ => ⟨S5120x10240, .fp8e4m3⟩
  | .hbm, ⟨4, _⟩ => ⟨S10240, .f32⟩
  | .hbm, ⟨5, _⟩ => ⟨S160, .f32⟩
  | .hbm, ⟨6, _⟩ => ⟨S160, .f32⟩
  | .hbm, ⟨7, _⟩ => ⟨S256x5120, .bf16⟩
  | .hbm, ⟨8, _⟩ => ⟨S1x5120, .f32⟩
  | .hbm, ⟨9, _⟩ => ⟨S1x10240, .f32⟩
  | .hbm, ⟨10, _⟩ => ⟨S1x160, .f32⟩
  | .hbm, ⟨11, _⟩ => ⟨S1x160, .f32⟩
  | .hbm, ⟨12, _⟩ => ⟨S2x48x160x128, .bf16⟩
  | .hbm, ⟨13, _⟩ => ⟨S256x5120, .fp8e4m3⟩
  | .hbm, ⟨14, _⟩ => ⟨S2x128, .f32⟩
  | .hbm, ⟨15, _⟩ => ⟨S2x8x160x128, .fp8e4m3⟩
  | .hbm, ⟨16, _⟩ => ⟨S2x8x128, .f32⟩
  | .hbm, ⟨17, _⟩ => ⟨S2x8x160x128, .fp8e4m3⟩
  | .hbm, ⟨18, _⟩ => ⟨S2x8x128, .f32⟩
  | .hbm, ⟨19, _⟩ => ⟨S2x128x48x160, .bf16⟩
  | .hbm, ⟨20, _⟩ => ⟨S2x128x5120, .fp8e4m3⟩
  | .hbm, ⟨21, _⟩ => ⟨S2x128x8x160, .fp8e4m3⟩
  | .hbm, ⟨22, _⟩ => ⟨S2x128x8, .f32⟩
  | .hbm, ⟨23, _⟩ => ⟨S2x128x8x160, .fp8e4m3⟩
  | .hbm, ⟨24, _⟩ => ⟨S2x128x8, .f32⟩
  | .local _ .vmem, ⟨0, _⟩ => ⟨S256x5120, .bf16⟩
  | .local _ .vmem, ⟨1, _⟩ => ⟨S8x5120x512, .fp8e4m3⟩
  | .local _ .vmem, ⟨2, _⟩ => ⟨S2x128, .i32⟩
  | .local _ .vmem, ⟨3, _⟩ => ⟨S1x5120, .f32⟩
  | .local _ .vmem, ⟨4, _⟩ => ⟨S1x10240, .f32⟩
  | .local _ .vmem, ⟨5, _⟩ => ⟨S1x160, .f32⟩
  | .local _ .vmem, ⟨6, _⟩ => ⟨S1x160, .f32⟩
  | .local _ .vmem, ⟨7, _⟩ => ⟨S256x5120, .fp8e4m3⟩
  | .local _ .vmem, ⟨8, _⟩ => ⟨S256x128, .f32⟩
  | .local _ .vmem, ⟨9, _⟩ => ⟨S2x128, .f32⟩
  | .local _ .vmem, ⟨10, _⟩ => ⟨S2x8x128, .f32⟩
  | .local _ .vmem, ⟨11, _⟩ => ⟨S2x80x128, .f32⟩
  | .local _ .vmem, ⟨12, _⟩ => ⟨S2x80x128, .f32⟩
  | .local _ .vmem, ⟨13, _⟩ => ⟨S160x128, .f32⟩
  | .local _ .vmem, ⟨14, _⟩ => ⟨S160x128, .f32⟩
  | .local _ .vmem, ⟨15, _⟩ => ⟨S2x256x512, .f32⟩
  | .local _ .vmem, ⟨16, _⟩ => ⟨S2x2560x128, .f32⟩
  | .local _ .vmem, ⟨17, _⟩ => ⟨S2x48x160x128, .bf16⟩
  | .local _ .vmem, ⟨18, _⟩ => ⟨S2x8x160x128, .fp8e4m3⟩
  | .local _ .vmem, ⟨19, _⟩ => ⟨S2x8x128, .f32⟩
  | .local _ .vmem, ⟨20, _⟩ => ⟨S2x8x160x128, .fp8e4m3⟩
  | .local _ .vmem, ⟨21, _⟩ => ⟨S2x8x128, .f32⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩

abbrev nD : Nat := 1
abbrev τ : Topo := Topo.v7x

variable {F : FTy → Type} [FloatOps F]

abbrev grid0 : Pipeline.Grid := .none
-- ==== ReferenceIdeal.lean ====
abbrev S2x128x5120 : Shape := ⟨3, ![2, 128, 5120]⟩
abbrev S2x128 : Shape := ⟨2, ![2, 128]⟩
abbrev S5120 : Shape := ⟨1, ![5120]⟩
abbrev S5120x10240 : Shape := ⟨2, ![5120, 10240]⟩
abbrev S10240 : Shape := ⟨1, ![10240]⟩
abbrev S160 : Shape := ⟨1, ![160]⟩
abbrev S2x128x48x160 : Shape := ⟨4, ![2, 128, 48, 160]⟩
abbrev S2x128x8x160 : Shape := ⟨4, ![2, 128, 8, 160]⟩
abbrev S2x128x8 : Shape := ⟨3, ![2, 128, 8]⟩
abbrev S2x128x1 : Shape := ⟨3, ![2, 128, 1]⟩
abbrev S1x1x5120 : Shape := ⟨3, ![1, 1, 5120]⟩
abbrev S256x5120 : Shape := ⟨2, ![256, 5120]⟩
abbrev S256x10240 : Shape := ⟨2, ![256, 10240]⟩
abbrev S2x128x10240 : Shape := ⟨3, ![2, 128, 10240]⟩
abbrev S1x1x10240 : Shape := ⟨3, ![1, 1, 10240]⟩
abbrev S2x128x7680 : Shape := ⟨3, ![2, 128, 7680]⟩
abbrev S2x128x1280 : Shape := ⟨3, ![2, 128, 1280]⟩
abbrev S2x128x48 : Shape := ⟨3, ![2, 128, 48]⟩
abbrev S2x128x48x1 : Shape := ⟨4, ![2, 128, 48, 1]⟩
abbrev S1x1x1x160 : Shape := ⟨4, ![1, 1, 1, 160]⟩
abbrev S2x128x8x1 : Shape := ⟨4, ![2, 128, 8, 1]⟩
abbrev S1x1x80 : Shape := ⟨3, ![1, 1, 80]⟩
abbrev S2x128x80 : Shape := ⟨3, ![2, 128, 80]⟩
abbrev S2x128x1x80 : Shape := ⟨4, ![2, 128, 1, 80]⟩
abbrev S2x128x48x80 : Shape := ⟨4, ![2, 128, 48, 80]⟩
abbrev S2x128x8x80 : Shape := ⟨4, ![2, 128, 8, 80]⟩

abbrev nBuf : Space → Nat
  | .hbm => 14
  | .vmem => 14
  | .smem => 0
  | _ => 0

abbrev bufTy : (tb : Table) → Fin (tcTables nBuf tb) → BufTy
  | .hbm, ⟨0, _⟩ => ⟨S2x128x5120, .bf16⟩
  | .hbm, ⟨1, _⟩ => ⟨S2x128, .i32⟩
  | .hbm, ⟨2, _⟩ => ⟨S5120, .f32⟩
  | .hbm, ⟨3, _⟩ => ⟨S5120x10240, .fp8e4m3⟩
  | .hbm, ⟨4, _⟩ => ⟨S10240, .f32⟩
  | .hbm, ⟨5, _⟩ => ⟨S160, .f32⟩
  | .hbm, ⟨6, _⟩ => ⟨S160, .f32⟩
  | .hbm, ⟨7, _⟩ => ⟨S2x128x48x160, .bf16⟩
  | .hbm, ⟨8, _⟩ => ⟨S2x128x5120, .fp8e4m3⟩
  | .hbm, ⟨9, _⟩ => ⟨S2x128, .f32⟩
  | .hbm, ⟨10, _⟩ => ⟨S2x128x8x160, .fp8e4m3⟩
  | .hbm, ⟨11, _⟩ => ⟨S2x128x8, .f32⟩
  | .hbm, ⟨12, _⟩ => ⟨S2x128x8x160, .fp8e4m3⟩
  | .hbm, ⟨13, _⟩ => ⟨S2x128x8, .f32⟩
  | .local _ .vmem, ⟨0, _⟩ => ⟨S2x128x5120, .bf16⟩
  | .local _ .vmem, ⟨1, _⟩ => ⟨S2x128, .i32⟩
  | .local _ .vmem, ⟨2, _⟩ => ⟨S5120, .f32⟩
  | .local _ .vmem, ⟨3, _⟩ => ⟨S5120x10240, .fp8e4m3⟩
  | .local _ .vmem, ⟨4, _⟩ => ⟨S10240, .f32⟩
  | .local _ .vmem, ⟨5, _⟩ => ⟨S160, .f32⟩
  | .local _ .vmem, ⟨6, _⟩ => ⟨S160, .f32⟩
  | .local _ .vmem, ⟨7, _⟩ => ⟨S2x128x48x160, .bf16⟩
  | .local _ .vmem, ⟨8, _⟩ => ⟨S2x128x5120, .fp8e4m3⟩
  | .local _ .vmem, ⟨9, _⟩ => ⟨S2x128, .f32⟩
  | .local _ .vmem, ⟨10, _⟩ => ⟨S2x128x8x160, .fp8e4m3⟩
  | .local _ .vmem, ⟨11, _⟩ => ⟨S2x128x8, .f32⟩
  | .local _ .vmem, ⟨12, _⟩ => ⟨S2x128x8x160, .fp8e4m3⟩
  | .local _ .vmem, ⟨13, _⟩ => ⟨S2x128x8, .f32⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x48x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x8x160 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x8x160 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Spec.lean ====
/-
  What the kernel body is to do: from its seven inputs held at `x`, its seven results at `r`, its scratch
  buffers at anything and every semaphore at zero, it ends with the inputs as they were, the results at `g`
  and every semaphore at zero again.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

/-- Contents of the buffer `M` on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's triple: inputs `x` kept, results `r` taken to `g`, every semaphore back at zero. -/
def BodyTriple (c : Dev nD) (x0 : Bf (F := F) c (Memref.whole main_v0)) (x1 : Bf (F := F) c (Memref.whole main_arg3)) (x2 : Bf (F := F) c (Memref.whole main_arg1)) (x3 : Bf (F := F) c (Memref.whole main_v1)) (x4 : Bf (F := F) c (Memref.whole main_v2)) (x5 : Bf (F := F) c (Memref.whole main_v3)) (x6 : Bf (F := F) c (Memref.whole main_v4))
    (r0 : Bf (F := F) c (Memref.whole main_v5_0)) (r1 : Bf (F := F) c (Memref.whole main_v5_1)) (r2 : Bf (F := F) c (Memref.whole main_v5_2)) (r3 : Bf (F := F) c (Memref.whole main_v5_3)) (r4 : Bf (F := F) c (Memref.whole main_v5_4)) (r5 : Bf (F := F) c (Memref.whole main_v5_5)) (r6 : Bf (F := F) c (Memref.whole main_v5_6))
    (g0 : Bf (F := F) c (Memref.whole main_v5_0)) (g1 : Bf (F := F) c (Memref.whole main_v5_1)) (g2 : Bf (F := F) c (Memref.whole main_v5_2)) (g3 : Bf (F := F) c (Memref.whole main_v5_3)) (g4 : Bf (F := F) c (Memref.whole main_v5_4)) (g5 : Bf (F := F) c (Memref.whole main_v5_5)) (g6 : Bf (F := F) c (Memref.whole main_v5_6)) : Prop :=
  ∀ (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21)) (W : Waits sig Unit) (Q : PUnit → sProp 𝕄),
    iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ pt c (Memref.whole main_v5_0) r0 ∗ pt c (Memref.whole main_v5_1) r1 ∗ pt c (Memref.whole main_v5_2) r2 ∗ pt c (Memref.whole main_v5_3) r3 ∗ pt c (Memref.whole main_v5_4) r4 ∗ pt c (Memref.whole main_v5_5) r5 ∗ pt c (Memref.whole main_v5_6) r6 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16 ∗ pt c (Memref.whole cc0_scratch17) s17 ∗ pt c (Memref.whole cc0_scratch18) s18 ∗ pt c (Memref.whole cc0_scratch19) s19 ∗ pt c (Memref.whole cc0_scratch20) s20 ∗ pt c (Memref.whole cc0_scratch21) s21 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ owes (c : Thread nD τ) 0 W
      ∗ (iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ pt c (Memref.whole main_v5_0) g0 ∗ pt c (Memref.whole main_v5_1) g1 ∗ pt c (Memref.whole main_v5_2) g2 ∗ pt c (Memref.whole main_v5_3) g3 ∗ pt c (Memref.whole main_v5_4) g4 ∗ pt c (Memref.whole main_v5_5) g5 ∗ pt c (Memref.whole main_v5_6) g6 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ (∃ W', owes (c : Thread nD τ) 0 W')) -∗ Q ⟨⟩))
    ⊢ wp frame (wpE (defs₀ (F := F)) Variants.none c none) Set.univ (cc0_qkv_rope_fp8 (Memref.whole main_v0) (Memref.isWhole_whole _) (Memref.whole main_arg3) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole main_v5_4) (Memref.isWhole_whole _) (Memref.whole main_v5_5) (Memref.isWhole_whole _) (Memref.whole main_v5_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scratch24 cc0_scratch25) Q

end Cert.Kernel.Hand

end
-- ==== Proof.Frame.lean ====
/-
  @main around its one region, given the body's triple: every execution ends with each buffer at what the
  host lines after the region leave over the results `g`, and with every semaphore at zero.
-/
module

public import proofs.«01_k».proof.Proof.Spec
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The body's 53 own semaphores. -/
abbrev osem0 : Fin 53 → SemLoc sig := fun j => SemLoc.dma (![0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52] j)
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52] (by decide) (by decide)]; rfl

/-- The buffers the body's transfers read, and those they write. -/
def H0 : Finset (Ref sig .tc) := {main_v0, main_arg3, main_arg1, main_v1, main_v2, main_v3, main_v4}
def R0 : Finset (Ref sig .tc) := {main_v5_0, main_v5_1, main_v5_2, main_v5_3, main_v5_4, main_v5_5, main_v5_6}
theorem H0_sub : H0 ⊆ Pipeline.restRefs sig cfg0.spec := by decide
theorem R0_sub : R0 ⊆ Pipeline.restRefs sig cfg0.spec \ H0 := by decide
theorem readPts_eq (c : Dev nD) (G : (c : Dev nD) → (b : Ref sig .tc) → Buf (Elt F) ((c : Thread nD τ).loc b)) :
    (bigSep H0 (fun b => ((c : Thread nD τ).loc b) ↦{fullShare} G c b) : sProp 𝕄)
      = iprop(pt c (Memref.whole main_v0) (G c main_v0) ∗ pt c (Memref.whole main_arg3) (G c main_arg3) ∗ pt c (Memref.whole main_arg1) (G c main_arg1) ∗ pt c (Memref.whole main_v1) (G c main_v1) ∗ pt c (Memref.whole main_v2) (G c main_v2) ∗ pt c (Memref.whole main_v3) (G c main_v3) ∗ pt c (Memref.whole main_v4) (G c main_v4)) := by
  rw [BI.bigSep_eq_bigSepL_of_eq [main_v0, main_arg3, main_arg1, main_v1, main_v2, main_v3, main_v4] (by decide) (by decide)]; rfl
theorem writtenPts_eq (c : Dev nD) (G : (c : Dev nD) → (b : Ref sig .tc) → Buf (Elt F) ((c : Thread nD τ).loc b)) :
    (bigSep R0 (fun b => ((c : Thread nD τ).loc b) ↦{fullShare} G c b) : sProp 𝕄)
      = iprop(pt c (Memref.whole main_v5_0) (G c main_v5_0) ∗ pt c (Memref.whole main_v5_1) (G c main_v5_1) ∗ pt c (Memref.whole main_v5_2) (G c main_v5_2) ∗ pt c (Memref.whole main_v5_3) (G c main_v5_3) ∗ pt c (Memref.whole main_v5_4) (G c main_v5_4) ∗ pt c (Memref.whole main_v5_5) (G c main_v5_5) ∗ pt c (Memref.whole main_v5_6) (G c main_v5_6)) := by
  rw [BI.bigSep_eq_bigSepL_of_eq [main_v5_0, main_v5_1, main_v5_2, main_v5_3, main_v5_4, main_v5_5, main_v5_6] (by decide) (by decide)]; rfl
theorem scopedPts_eq (c : Dev nD) :
    (Pipeline.scopedRest (Ix := Unit) (Name := ℕ) (U := Pipeline.UD sig nD τ) (Lvl := ℕ) (Val := Elt F) cfg0.spec c : sProp 𝕄)
      = iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f)) :=
  scopedRest0_eq c

variable (G : (c : Dev nD) → (b : Ref sig .tc) → Buf (Elt F) ((c : Thread nD τ).loc b))

/-- What is held between points: the read buffers at their contents, the written ones at `G'`. -/
theorem Phi_eq (c : Dev nD) (G' : (c : Dev nD) → (b : Ref sig .tc) → Buf (Elt F) ((c : Thread nD τ).loc b)) :
    (Pipeline.ΦDRV osem0 cfg0.spec H0 R0 (V m) G' c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f))
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0)
          ∗ iprop(pt c (Memref.whole main_v0) (V m c main_v0) ∗ pt c (Memref.whole main_arg3) (V m c main_arg3) ∗ pt c (Memref.whole main_arg1) (V m c main_arg1) ∗ pt c (Memref.whole main_v1) (V m c main_v1) ∗ pt c (Memref.whole main_v2) (V m c main_v2) ∗ pt c (Memref.whole main_v3) (V m c main_v3) ∗ pt c (Memref.whole main_v4) (V m c main_v4))
          ∗ iprop(pt c (Memref.whole main_v5_0) (G' c main_v5_0) ∗ pt c (Memref.whole main_v5_1) (G' c main_v5_1) ∗ pt c (Memref.whole main_v5_2) (G' c main_v5_2) ∗ pt c (Memref.whole main_v5_3) (G' c main_v5_3) ∗ pt c (Memref.whole main_v5_4) (G' c main_v5_4) ∗ pt c (Memref.whole main_v5_5) (G' c main_v5_5) ∗ pt c (Memref.whole main_v5_6) (G' c main_v5_6))) := by
  unfold Pipeline.ΦDRV
  rw [scopedPts_eq, ownSems00_eq, readPts_eq c (V m), writtenPts_eq c G']

/-- The proof data: no window; the results at their contents at entry before the point, at `G` after it. -/
def dats (_ : Fin 1) (c : Dev nD) : Dat τ (Elt F) Unit ℕ (Pipeline.UD sig nD τ) ℕ cfg0 c where
  A w := w.elim0
  after w := w.elim0
  Φ i := if i.val = 0 then Pipeline.ΦDRV osem0 cfg0.spec H0 R0 (V m) (V m) c else Pipeline.ΦDRV osem0 cfg0.spec H0 R0 (V m) G c
  q _ := fullShare
  owed _ := 0

theorem Phi_first (c : Dev nD) (i : Fin (cfg0.N + 1)) (h : i.val = 0) :
    (dats m G 0 c).Φ i = Pipeline.ΦDRV osem0 cfg0.spec H0 R0 (V m) (V m) c := if_pos h
theorem Phi_last (c : Dev nD) (i : Fin (cfg0.N + 1)) (h : i.val ≠ 0) :
    (dats m G 0 c).Φ i = Pipeline.ΦDRV osem0 cfg0.spec H0 R0 (V m) G c := if_neg h

theorem sound_body (c : Dev nD)
    (hb : BodyTriple c (V m c main_v0) (V m c main_arg3) (V m c main_arg1) (V m c main_v1) (V m c main_v2) (V m c main_v3) (V m c main_v4) (V m c main_v5_0) (V m c main_v5_1) (V m c main_v5_2) (V m c main_v5_3) (V m c main_v5_4) (V m c main_v5_5) (V m c main_v5_6) (G c main_v5_0) (G c main_v5_1) (G c main_v5_2) (G c main_v5_3) (G c main_v5_4) (G c main_v5_5) (G c main_v5_6)) :
    iprop(Pipeline.ΦDRV osem0 cfg0.spec H0 R0 (V m) (V m) c ∗ (∃ W : Waits sig Unit, owes (c : Thread nD τ) 0 W))
      ⊢ wp frame (wpE (defs₀ (F := F)) Variants.none c none) Set.univ (bodyAt0 t0_0)
        (fun _ => iprop(Pipeline.ΦDRV osem0 cfg0.spec H0 R0 (V m) G c ∗ (∃ W : Waits sig Unit, owes (c : Thread nD τ) 0 W))) := by
  rw [Phi_eq, Phi_eq]
  unfold bodyAt0
  iintro ⟨⟨⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩, ⟨%s12, Hs12⟩, ⟨%s13, Hs13⟩, ⟨%s14, Hs14⟩, ⟨%s15, Hs15⟩, ⟨%s16, Hs16⟩, ⟨%s17, Hs17⟩, ⟨%s18, Hs18⟩, ⟨%s19, Hs19⟩, ⟨%s20, Hs20⟩, ⟨%s21, Hs21⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52⟩, ⟨Hx0, Hx1, Hx2, Hx3, Hx4, Hx5, Hx6⟩, ⟨Hr0, Hr1, Hr2, Hr3, Hr4, Hr5, Hr6⟩⟩, ⟨%W, HW⟩⟩
  iapply (hb s0 s1 s2 s3 s4 s5 s6 s7 s8 s9 s10 s11 s12 s13 s14 s15 s16 s17 s18 s19 s20 s21 W _)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [HW]; · iexact HW
  iintro ⟨Hx0, Hx1, Hx2, Hx3, Hx4, Hx5, Hx6, Hr0, Hr1, Hr2, Hr3, Hr4, Hr5, Hr6, Hs0, Hs1, Hs2, Hs3, Hs4, Hs5, Hs6, Hs7, Hs8, Hs9, Hs10, Hs11, Hs12, Hs13, Hs14, Hs15, Hs16, Hs17, Hs18, Hs19, Hs20, Hs21, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, HW⟩
  isplitl [Hx0 Hx1 Hx2 Hx3 Hx4 Hx5 Hx6 Hr0 Hr1 Hr2 Hr3 Hr4 Hr5 Hr6 Hs0 Hs1 Hs2 Hs3 Hs4 Hs5 Hs6 Hs7 Hs8 Hs9 Hs10 Hs11 Hs12 Hs13 Hs14 Hs15 Hs16 Hs17 Hs18 Hs19 Hs20 Hs21 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52]
  · isplitl [Hs0 Hs1 Hs2 Hs3 Hs4 Hs5 Hs6 Hs7 Hs8 Hs9 Hs10 Hs11 Hs12 Hs13 Hs14 Hs15 Hs16 Hs17 Hs18 Hs19 Hs20 Hs21]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      iexact Hs21
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      iexact Hq52
    isplitl [Hx0 Hx1 Hx2 Hx3 Hx4 Hx5 Hx6]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      iexact Hx6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD)
    (hb : BodyTriple c (V m c main_v0) (V m c main_arg3) (V m c main_arg1) (V m c main_v1) (V m c main_v2) (V m c main_v3) (V m c main_v4) (V m c main_v5_0) (V m c main_v5_1) (V m c main_v5_2) (V m c main_v5_3) (V m c main_v5_4) (V m c main_v5_5) (V m c main_v5_6) (G c main_v5_0) (G c main_v5_1) (G c main_v5_2) (G c main_v5_3) (G c main_v5_4) (G c main_v5_5) (G c main_v5_6)) :
    BodyObligation (dats (F := F) m G 0 c) (defs₀ (F := F)) Variants.none () Set.univ := fun t => by
  obtain rfl : t = t0_0 := fin_N0 t
  have : IsEmpty (Fin cfg0.W) := inferInstanceAs (IsEmpty (Fin 0))
  rw [Finset.univ_eq_empty, bigSep_empty, bigSep_empty, defs₀_row, Phi_first m G c _ (by rfl), Phi_last m G c _ (by decide)]
  refine triple_restated (sound_body m G c hb) rfl ?_ ?_
  · iintro ⟨HP, HO, -⟩
    isplitl [HP]; · iexact HP
    unfold Dat.owesAt Pipeline.owesWithin
    icases HO with ⟨%W, -, HW⟩
    iexists W; iexact HW
  · intro _
    iintro ⟨HP, HO⟩
    isplitl [HP]; · iexact HP
    unfold Dat.owesAt Pipeline.owesWithin
    isplitl [HO]
    · icases HO with ⟨%W, HW⟩
      iexists W; isplitr; · ipureintro; exact fun _ _ => Or.inl trivial
      iexact HW
    iempintro

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents the program ends with: the lines after the region over the results at `G`. -/
abbrev Wend (c : Dev nD) (b : Ref sig .tc) : Buf (Elt F) ((c : Thread nD τ).loc b) :=
  StableHlo.after (List.flatten [hostOps1]) (Pipeline.withArrays cfg0.spec c (Pipeline.withR (V0 m c) R0 c (G c)) fun w => (dats m G 0 c).arrAt w cfg0.N) (Proc.devRef .tc b)

set_option backward.isDefEq.respectTransparency.types false in
theorem run_main (hb : ∀ c, BodyTriple c (V m c main_v0) (V m c main_arg3) (V m c main_arg1) (V m c main_v1) (V m c main_v2) (V m c main_v3) (V m c main_v4) (V m c main_v5_0) (V m c main_v5_1) (V m c main_v5_2) (V m c main_v5_3) (V m c main_v5_4) (V m c main_v5_5) (V m c main_v5_6) (G c main_v5_0) (G c main_v5_1) (G c main_v5_2) (G c main_v5_3) (G c main_v5_4) (G c main_v5_5) (G c main_v5_6)) :
    θ_run defs (onTc (τ := τ) (main (F := F))) (s₀ m ρ) (fun r => (∀ c : Dev nD, ∀ b ∈ Pipeline.restRefs sig cfg0.spec, r.2.mem ((c.tc : Thread nD τ).loc b) = Wend m G c b) ∧ r.2.sem = fun _ => 0) :=
  Pipeline.θ_run_frame_dmaR_aroundV (Q' := _) cfgs (dats m G) (0 : Fin 1) launch0 osem0 defs₀ Variants.none ownSemFacts0 H0 R0 H0_sub R0_sub m ρ main
    (hbody := fun c => (body_obligation m G c (hb c)).loose) (hshare := fun c => (dats m G 0 c).share_full fun _ => rfl)
    (howed := fun _ _ => rfl) (V₀ := V0 m) (opss := [hostOps1]) (hsub := sfx_sub) (hfresh := sfx_fresh) (hkeep := sfx_keeps) (G := G)
    (hmain := hmainD m Variants.none) (hA := fun _ w => w.elim0)
    (hin := fun c => by rw [Phi_first m G c _ (by rfl)]) (hout := fun c => by rw [Phi_last m G c _ (by decide)])
    (hQ' := fun r h => ⟨fun c => (h.1 c).2, h.2⟩)

/-- No host line writes `main_arg0`: it ends as launched. -/
theorem Wend_main_arg0 (c : Dev nD) : Wend m G c main_arg0 = m ((c : Thread nD τ).loc main_arg0) := by
  rw [Wend, StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg0 (fun w => w.elim0), Pipeline.withR_of_not_mem _ _ _ _ main_arg0 (by decide)]
  exact V_main_arg0 m c
/-- No host line writes `main_arg1`: it ends as launched. -/
theorem Wend_main_arg1 (c : Dev nD) : Wend m G c main_arg1 = m ((c : Thread nD τ).loc main_arg1) := by
  rw [Wend, StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg1 (fun w => w.elim0), Pipeline.withR_of_not_mem _ _ _ _ main_arg1 (by decide)]
  exact V_main_arg1 m c
/-- No host line writes `main_arg2`: it ends as launched. -/
theorem Wend_main_arg2 (c : Dev nD) : Wend m G c main_arg2 = m ((c : Thread nD τ).loc main_arg2) := by
  rw [Wend, StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg2 (fun w => w.elim0), Pipeline.withR_of_not_mem _ _ _ _ main_arg2 (by decide)]
  exact V_main_arg2 m c
/-- No host line writes `main_arg3`: it ends as launched. -/
theorem Wend_main_arg3 (c : Dev nD) : Wend m G c main_arg3 = m ((c : Thread nD τ).loc main_arg3) := by
  rw [Wend, StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg3 (fun w => w.elim0), Pipeline.withR_of_not_mem _ _ _ _ main_arg3 (by decide)]
  exact V_main_arg3 m c
/-- No host line writes `main_arg4`: it ends as launched. -/
theorem Wend_main_arg4 (c : Dev nD) : Wend m G c main_arg4 = m ((c : Thread nD τ).loc main_arg4) := by
  rw [Wend, StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg4 (fun w => w.elim0), Pipeline.withR_of_not_mem _ _ _ _ main_arg4 (by decide)]
  exact V_main_arg4 m c
/-- No host line writes `main_arg5`: it ends as launched. -/
theorem Wend_main_arg5 (c : Dev nD) : Wend m G c main_arg5 = m ((c : Thread nD τ).loc main_arg5) := by
  rw [Wend, StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg5 (fun w => w.elim0), Pipeline.withR_of_not_mem _ _ _ _ main_arg5 (by decide)]
  exact V_main_arg5 m c
/-- No host line writes `main_arg6`: it ends as launched. -/
theorem Wend_main_arg6 (c : Dev nD) : Wend m G c main_arg6 = m ((c : Thread nD τ).loc main_arg6) := by
  rw [Wend, StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg6 (fun w => w.elim0), Pipeline.withR_of_not_mem _ _ _ _ main_arg6 (by decide)]
  exact V_main_arg6 m c

/-- The frame: the arguments end as launched and every semaphore at zero. -/
theorem frame_of_body (hb : ∀ c, BodyTriple c (V m c main_v0) (V m c main_arg3) (V m c main_arg1) (V m c main_v1) (V m c main_v2) (V m c main_v3) (V m c main_v4) (V m c main_v5_0) (V m c main_v5_1) (V m c main_v5_2) (V m c main_v5_3) (V m c main_v5_4) (V m c main_v5_5) (V m c main_v5_6) (G c main_v5_0) (G c main_v5_1) (G c main_v5_2) (G c main_v5_3) (G c main_v5_4) (G c main_v5_5) (G c main_v5_6)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c) main_arg0 (Pipeline.mem_restRefs_of main_arg0 (by decide) (by decide))).trans (Wend_main_arg0 m G c),
      ((h.1 c) main_arg1 (Pipeline.mem_restRefs_of main_arg1 (by decide) (by decide))).trans (Wend_main_arg1 m G c),
      ((h.1 c) main_arg2 (Pipeline.mem_restRefs_of main_arg2 (by decide) (by decide))).trans (Wend_main_arg2 m G c),
      ((h.1 c) main_arg3 (Pipeline.mem_restRefs_of main_arg3 (by decide) (by decide))).trans (Wend_main_arg3 m G c),
      ((h.1 c) main_arg4 (Pipeline.mem_restRefs_of main_arg4 (by decide) (by decide))).trans (Wend_main_arg4 m G c),
      ((h.1 c) main_arg5 (Pipeline.mem_restRefs_of main_arg5 (by decide) (by decide))).trans (Wend_main_arg5 m G c),
      ((h.1 c) main_arg6 (Pipeline.mem_restRefs_of main_arg6 (by decide) (by decide))).trans (Wend_main_arg6 m G c)⟩, h.2⟩) (run_main m ρ G hb)

end Cert.Kernel.Hand

end
-- ==== Proof.Body.lean ====
/-
  The kernel body run once at symbolic contents: what it leaves in the seven result arrays.
-/
module

public import proofs.«01_k».proof.Proof.Spec

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's beside the transfers' counters. -/
local notation "𝕄" => MT nD τ sig Unit (Elt F) ℕ (Pipeline.UD sig nD τ) ℕ

/-- A buffer held in three parts is held whole, at some contents. -/
theorem whole_of_three {ℓ : Loc nD τ sig} {A B : Finset (Idx ℓ)} (f g h : Buf (Elt F) ℓ) :
    iprop((ℓ ↦[A]{fullShare} g) ∗ (ℓ ↦[B]{fullShare} h) ∗ (ℓ ↦[(Finset.univ \ A) \ B]{fullShare} f))
      ⊢ (iprop(∃ k, ℓ ↦{fullShare} k) : sProp 𝕄) := by
  classical
  by_cases hd : B ⊆ Finset.univ \ A
  · iintro ⟨Ha, Hb, Hr⟩
    ihave H := (pointsTo_join_subset hd) $$ [Hb Hr]
    · isplitl [Hb]; · iexact Hb
      iexact Hr
    iexists _
    iapply (pointsTo_join_subset (Finset.subset_univ A))
    isplitl [Ha]; · iexact Ha
    iexact H
  · obtain ⟨i, hi, hn⟩ := Finset.not_subset.mp hd
    have ha : i ∈ A := by simpa using hn
    iintro ⟨Ha, Hb, Hr⟩
    ihave H := (pointsTo_full_full_false ha hi) $$ [Ha Hb]
    · isplitl [Ha]; · iexact Ha
      iexact Hb
    icases H with %H
    exact H.elim

set_option sl_exec.dmaWindow true in
set_option sl_exec.lendShare "Hs7" in
set_option sl_exec.rejoinFuel 200 in
set_option maxHeartbeats 0 in
/-- The body run from inputs `x`, results at `r` and scratch buffers at `s`: what it leaves in the seven results. -/
noncomputable def kernelRun (c : Dev nD) (x0 : Bf (F := F) c (Memref.whole main_v0)) (x1 : Bf (F := F) c (Memref.whole main_arg3)) (x2 : Bf (F := F) c (Memref.whole main_arg1)) (x3 : Bf (F := F) c (Memref.whole main_v1)) (x4 : Bf (F := F) c (Memref.whole main_v2)) (x5 : Bf (F := F) c (Memref.whole main_v3)) (x6 : Bf (F := F) c (Memref.whole main_v4))
    (r0 : Bf (F := F) c (Memref.whole main_v5_0)) (r1 : Bf (F := F) c (Memref.whole main_v5_1)) (r2 : Bf (F := F) c (Memref.whole main_v5_2)) (r3 : Bf (F := F) c (Memref.whole main_v5_3)) (r4 : Bf (F := F) c (Memref.whole main_v5_4)) (r5 : Bf (F := F) c (Memref.whole main_v5_5)) (r6 : Bf (F := F) c (Memref.whole main_v5_6))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21)) :
    { R : Bf (F := F) c (Memref.whole main_v5_0) × Bf (F := F) c (Memref.whole main_v5_1) × Bf (F := F) c (Memref.whole main_v5_2) × Bf (F := F) c (Memref.whole main_v5_3) × Bf (F := F) c (Memref.whole main_v5_4) × Bf (F := F) c (Memref.whole main_v5_5) × Bf (F := F) c (Memref.whole main_v5_6) //
      ∀ (W : Waits sig Unit) (Q : PUnit → sProp 𝕄),
        iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ pt c (Memref.whole main_v5_0) r0 ∗ pt c (Memref.whole main_v5_1) r1 ∗ pt c (Memref.whole main_v5_2) r2 ∗ pt c (Memref.whole main_v5_3) r3 ∗ pt c (Memref.whole main_v5_4) r4 ∗ pt c (Memref.whole main_v5_5) r5 ∗ pt c (Memref.whole main_v5_6) r6 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16 ∗ pt c (Memref.whole cc0_scratch17) s17 ∗ pt c (Memref.whole cc0_scratch18) s18 ∗ pt c (Memref.whole cc0_scratch19) s19 ∗ pt c (Memref.whole cc0_scratch20) s20 ∗ pt c (Memref.whole cc0_scratch21) s21 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ owes (c : Thread nD τ) 0 W
          ∗ (iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ pt c (Memref.whole main_v5_0) R.1 ∗ pt c (Memref.whole main_v5_1) R.2.1 ∗ pt c (Memref.whole main_v5_2) R.2.2.1 ∗ pt c (Memref.whole main_v5_3) R.2.2.2.1 ∗ pt c (Memref.whole main_v5_4) R.2.2.2.2.1 ∗ pt c (Memref.whole main_v5_5) R.2.2.2.2.2.1 ∗ pt c (Memref.whole main_v5_6) R.2.2.2.2.2.2 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ (∃ W', owes (c : Thread nD τ) 0 W')) -∗ Q ⟨⟩))
          ⊢ wp frame (wpE (defs₀ (F := F)) Variants.none c none) Set.univ
            (cc0_qkv_rope_fp8 (Memref.whole main_v0) (Memref.isWhole_whole _) (Memref.whole main_arg3) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole main_v5_4) (Memref.isWhole_whole _) (Memref.whole main_v5_5) (Memref.isWhole_whole _) (Memref.whole main_v5_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scratch24 cc0_scratch25) Q } := by
  refine ⟨⟨?_, ?_, ?_, ?_, ?_, ?_, ?_⟩, fun W Q => ?run⟩
  case run =>
    iintro ⟨Hx0, Hx1, Hx2, Hx3, Hx4, Hx5, Hx6, Hr0, Hr1, Hr2, Hr3, Hr4, Hr5, Hr6, Hs0, Hs1, Hs2, Hs3, Hs4, Hs5, Hs6, Hs7, Hs8, Hs9, Hs10, Hs11, Hs12, Hs13, Hs14, Hs15, Hs16, Hs17, Hs18, Hs19, Hs20, Hs21, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, HW, Hk⟩
    sl_exec_parts!
    sl_step
    iapply Hk
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    isplitl [Hs16]; · iexists _; iexact Hs16
    isplitl [Hs17 Hs17_2 Hs17_3]
    · iapply (whole_of_three _ _ _)
      isplitl [Hs17_2]; · iexact Hs17_2
      isplitl [Hs17_3]; · iexact Hs17_3
      iexact Hs17
    isplitl [Hs18]; · iexists _; iexact Hs18
    isplitl [Hs19]; · iexists _; iexact Hs19
    isplitl [Hs20]; · iexists _; iexact Hs20
    isplitl [Hs21]; · iexists _; iexact Hs21
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    iexists _; iexact HW

end Cert.Kernel.Hand

end
-- ==== Proof.FrameAny.lean ====
/-
  The frame of @main: from the body run with its results at anything, every execution ends with the
  arguments as launched and every semaphore at zero.
-/
module

public import proofs.«01_k».proof.Proof.Frame
public import proofs.«01_k».proof.Proof.Body
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

/-- The body's run with nothing said of its results. -/
theorem body_any (c : Dev nD) (x0 : Bf (F := F) c (Memref.whole main_v0)) (x1 : Bf (F := F) c (Memref.whole main_arg3)) (x2 : Bf (F := F) c (Memref.whole main_arg1)) (x3 : Bf (F := F) c (Memref.whole main_v1)) (x4 : Bf (F := F) c (Memref.whole main_v2)) (x5 : Bf (F := F) c (Memref.whole main_v3)) (x6 : Bf (F := F) c (Memref.whole main_v4))
    (r0 : Bf (F := F) c (Memref.whole main_v5_0)) (r1 : Bf (F := F) c (Memref.whole main_v5_1)) (r2 : Bf (F := F) c (Memref.whole main_v5_2)) (r3 : Bf (F := F) c (Memref.whole main_v5_3)) (r4 : Bf (F := F) c (Memref.whole main_v5_4)) (r5 : Bf (F := F) c (Memref.whole main_v5_5)) (r6 : Bf (F := F) c (Memref.whole main_v5_6))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21)) (W : Waits sig Unit) (Q : PUnit → sProp 𝕄) :
    iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ pt c (Memref.whole main_v5_0) r0 ∗ pt c (Memref.whole main_v5_1) r1 ∗ pt c (Memref.whole main_v5_2) r2 ∗ pt c (Memref.whole main_v5_3) r3 ∗ pt c (Memref.whole main_v5_4) r4 ∗ pt c (Memref.whole main_v5_5) r5 ∗ pt c (Memref.whole main_v5_6) r6 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16 ∗ pt c (Memref.whole cc0_scratch17) s17 ∗ pt c (Memref.whole cc0_scratch18) s18 ∗ pt c (Memref.whole cc0_scratch19) s19 ∗ pt c (Memref.whole cc0_scratch20) s20 ∗ pt c (Memref.whole cc0_scratch21) s21 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ owes (c : Thread nD τ) 0 W
      ∗ (iprop(pt c (Memref.whole main_v0) x0 ∗ pt c (Memref.whole main_arg3) x1 ∗ pt c (Memref.whole main_arg1) x2 ∗ pt c (Memref.whole main_v1) x3 ∗ pt c (Memref.whole main_v2) x4 ∗ pt c (Memref.whole main_v3) x5 ∗ pt c (Memref.whole main_v4) x6 ∗ (∃ f, pt c (Memref.whole main_v5_0) f) ∗ (∃ f, pt c (Memref.whole main_v5_1) f) ∗ (∃ f, pt c (Memref.whole main_v5_2) f) ∗ (∃ f, pt c (Memref.whole main_v5_3) f) ∗ (∃ f, pt c (Memref.whole main_v5_4) f) ∗ (∃ f, pt c (Memref.whole main_v5_5) f) ∗ (∃ f, pt c (Memref.whole main_v5_6) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ (∃ W', owes (c : Thread nD τ) 0 W')) -∗ Q ⟨⟩))
    ⊢ wp frame (wpE (defs₀ (F := F)) Variants.none c none) Set.univ (cc0_qkv_rope_fp8 (Memref.whole main_v0) (Memref.isWhole_whole _) (Memref.whole main_arg3) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (Memref.whole main_v5_2) (Memref.isWhole_whole _) (Memref.whole main_v5_3) (Memref.isWhole_whole _) (Memref.whole main_v5_4) (Memref.isWhole_whole _) (Memref.whole main_v5_5) (Memref.isWhole_whole _) (Memref.whole main_v5_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scratch24 cc0_scratch25) Q := by
  iintro ⟨Hx0, Hx1, Hx2, Hx3, Hx4, Hx5, Hx6, Hr0, Hr1, Hr2, Hr3, Hr4, Hr5, Hr6, Hs0, Hs1, Hs2, Hs3, Hs4, Hs5, Hs6, Hs7, Hs8, Hs9, Hs10, Hs11, Hs12, Hs13, Hs14, Hs15, Hs16, Hs17, Hs18, Hs19, Hs20, Hs21, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, HW, Hk⟩
  iapply ((kernelRun c x0 x1 x2 x3 x4 x5 x6 r0 r1 r2 r3 r4 r5 r6 s0 s1 s2 s3 s4 s5 s6 s7 s8 s9 s10 s11 s12 s13 s14 s15 s16 s17 s18 s19 s20 s21).2 W Q)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [HW]; · iexact HW
  iintro ⟨Hx0, Hx1, Hx2, Hx3, Hx4, Hx5, Hx6, Hr0, Hr1, Hr2, Hr3, Hr4, Hr5, Hr6, Hs0, Hs1, Hs2, Hs3, Hs4, Hs5, Hs6, Hs7, Hs8, Hs9, Hs10, Hs11, Hs12, Hs13, Hs14, Hs15, Hs16, Hs17, Hs18, Hs19, Hs20, Hs21, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, HW⟩
  iapply Hk
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hr0]; · iexists _; iexact Hr0
  isplitl [Hr1]; · iexists _; iexact Hr1
  isplitl [Hr2]; · iexists _; iexact Hr2
  isplitl [Hr3]; · iexists _; iexact Hr3
  isplitl [Hr4]; · iexists _; iexact Hr4
  isplitl [Hr5]; · iexists _; iexact Hr5
  isplitl [Hr6]; · iexists _; iexact Hr6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  iexact HW

variable (m : (ℓ : Loc nD τ sig) → Buf (Elt F) ℓ) (ρ : Dev nD → PrngReg)

theorem owned_eq (c : Dev nD) :
    (Pipeline.owned R0 c : sProp 𝕄)
      = iprop((∃ f, pt c (Memref.whole main_v5_0) f) ∗ (∃ f, pt c (Memref.whole main_v5_1) f) ∗ (∃ f, pt c (Memref.whole main_v5_2) f) ∗ (∃ f, pt c (Memref.whole main_v5_3) f) ∗ (∃ f, pt c (Memref.whole main_v5_4) f) ∗ (∃ f, pt c (Memref.whole main_v5_5) f) ∗ (∃ f, pt c (Memref.whole main_v5_6) f)) := by
  unfold Pipeline.owned
  rw [BI.bigSep_eq_bigSepL_of_eq [main_v5_0, main_v5_1, main_v5_2, main_v5_3, main_v5_4, main_v5_5, main_v5_6] (by decide) (by decide)]; rfl

/-- What is held between points: the read buffers at their contents, the written ones at anything. -/
theorem PhiAny_eq (c : Dev nD) :
    (Pipeline.ΦDR osem0 cfg0.spec H0 R0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0)
          ∗ iprop(pt c (Memref.whole main_v0) (V m c main_v0) ∗ pt c (Memref.whole main_arg3) (V m c main_arg3) ∗ pt c (Memref.whole main_arg1) (V m c main_arg1) ∗ pt c (Memref.whole main_v1) (V m c main_v1) ∗ pt c (Memref.whole main_v2) (V m c main_v2) ∗ pt c (Memref.whole main_v3) (V m c main_v3) ∗ pt c (Memref.whole main_v4) (V m c main_v4))
          ∗ iprop((∃ f, pt c (Memref.whole main_v5_0) f) ∗ (∃ f, pt c (Memref.whole main_v5_1) f) ∗ (∃ f, pt c (Memref.whole main_v5_2) f) ∗ (∃ f, pt c (Memref.whole main_v5_3) f) ∗ (∃ f, pt c (Memref.whole main_v5_4) f) ∗ (∃ f, pt c (Memref.whole main_v5_5) f) ∗ (∃ f, pt c (Memref.whole main_v5_6) f))) := by
  rw [Pipeline.ΦDR_eq, scopedPts_eq, ownSems00_eq, readPts_eq c (V m), owned_eq]

/-- The proof data: no window; the same held before the point and after it. -/
def datsAny (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q _ := fullShare
  owed _ := 0

theorem PhiAny_at (c : Dev nD) (i : Fin (cfg0.N + 1)) :
    (datsAny m 0 c).Φ i = Pipeline.ΦDR osem0 cfg0.spec H0 R0 (V m) c := rfl

theorem sound_any (c : Dev nD) :
    iprop(Pipeline.ΦDR osem0 cfg0.spec H0 R0 (V m) c ∗ (∃ W : Waits sig Unit, owes (c : Thread nD τ) 0 W))
      ⊢ wp frame (wpE (defs₀ (F := F)) Variants.none c none) Set.univ (bodyAt0 t0_0)
        (fun _ => iprop(Pipeline.ΦDR osem0 cfg0.spec H0 R0 (V m) c ∗ (∃ W : Waits sig Unit, owes (c : Thread nD τ) 0 W))) := by
  rw [PhiAny_eq]
  unfold bodyAt0
  iintro ⟨⟨⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩, ⟨%s12, Hs12⟩, ⟨%s13, Hs13⟩, ⟨%s14, Hs14⟩, ⟨%s15, Hs15⟩, ⟨%s16, Hs16⟩, ⟨%s17, Hs17⟩, ⟨%s18, Hs18⟩, ⟨%s19, Hs19⟩, ⟨%s20, Hs20⟩, ⟨%s21, Hs21⟩⟩, Hp, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52⟩, ⟨Hx0, Hx1, Hx2, Hx3, Hx4, Hx5, Hx6⟩, ⟨⟨%r0, Hr0⟩, ⟨%r1, Hr1⟩, ⟨%r2, Hr2⟩, ⟨%r3, Hr3⟩, ⟨%r4, Hr4⟩, ⟨%r5, Hr5⟩, ⟨%r6, Hr6⟩⟩⟩, ⟨%W, HW⟩⟩
  iapply (body_any c (V m c main_v0) (V m c main_arg3) (V m c main_arg1) (V m c main_v1) (V m c main_v2) (V m c main_v3) (V m c main_v4) r0 r1 r2 r3 r4 r5 r6 s0 s1 s2 s3 s4 s5 s6 s7 s8 s9 s10 s11 s12 s13 s14 s15 s16 s17 s18 s19 s20 s21 W _)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [HW]; · iexact HW
  iintro ⟨Hx0, Hx1, Hx2, Hx3, Hx4, Hx5, Hx6, Hr0, Hr1, Hr2, Hr3, Hr4, Hr5, Hr6, Hs0, Hs1, Hs2, Hs3, Hs4, Hs5, Hs6, Hs7, Hs8, Hs9, Hs10, Hs11, Hs12, Hs13, Hs14, Hs15, Hs16, Hs17, Hs18, Hs19, Hs20, Hs21, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, HW⟩
  isplitl [Hp Hx0 Hx1 Hx2 Hx3 Hx4 Hx5 Hx6 Hr0 Hr1 Hr2 Hr3 Hr4 Hr5 Hr6 Hs0 Hs1 Hs2 Hs3 Hs4 Hs5 Hs6 Hs7 Hs8 Hs9 Hs10 Hs11 Hs12 Hs13 Hs14 Hs15 Hs16 Hs17 Hs18 Hs19 Hs20 Hs21 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52]
  · isplitl [Hs0 Hs1 Hs2 Hs3 Hs4 Hs5 Hs6 Hs7 Hs8 Hs9 Hs10 Hs11 Hs12 Hs13 Hs14 Hs15 Hs16 Hs17 Hs18 Hs19 Hs20 Hs21]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      iexact Hs21
    isplitl [Hp]; · iexact Hp
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      iexact Hq52
    isplitl [Hx0 Hx1 Hx2 Hx3 Hx4 Hx5 Hx6]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      iexact Hx6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  iexact HW

theorem body_obligation_any (c : Dev nD) :
    BodyObligation (datsAny (F := F) m 0 c) (defs₀ (F := F)) Variants.none () Set.univ := fun t => by
  obtain rfl : t = t0_0 := fin_N0 t
  have : IsEmpty (Fin cfg0.W) := inferInstanceAs (IsEmpty (Fin 0))
  rw [Finset.univ_eq_empty, bigSep_empty, bigSep_empty, defs₀_row, PhiAny_at, PhiAny_at]
  refine triple_restated (sound_any m c) rfl ?_ ?_
  · iintro ⟨HP, HO, -⟩
    isplitl [HP]; · iexact HP
    unfold Dat.owesAt Pipeline.owesWithin
    icases HO with ⟨%W, -, HW⟩
    iexists W; iexact HW
  · intro _
    iintro ⟨HP, HO⟩
    isplitl [HP]; · iexact HP
    unfold Dat.owesAt Pipeline.owesWithin
    isplitl [HO]
    · icases HO with ⟨%W, HW⟩
      iexists W; isplitr; · ipureintro; exact fun _ _ => Or.inl trivial
      iexact HW
    iempintro

/-- The buffers the host lines after the region write. -/
def T0 : Finset (Ref sig .tc) := {main_v6, main_v7, main_v8, main_v9, main_v10, main_v11}
theorem T0_writes : ∀ ops ∈ [hostOps1 (F := F)], ∀ op ∈ ops, ∀ b : Ref sig .tc, Proc.devRef .tc b ∈ op.writes → b ∈ T0 := by
  intro ops hops
  rw [List.mem_singleton.mp hops]
  refine List.forall_iff_forall_mem.mp ?_
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro b hb
    obtain rfl := Proc.devRef_injective _ hb
    decide

set_option backward.isDefEq.respectTransparency.types false in
/-- The frame: the arguments end as launched and every semaphore at zero. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_dmaR_around (Q' := _) cfgs (datsAny m) (0 : Fin 1) launch0 osem0 defs₀ Variants.none ownSemFacts0 H0 R0 T0 H0_sub R0_sub m ρ main
    (hbody := fun c => (body_obligation_any m c).loose) (hshare := fun c => (datsAny m 0 c).share_full fun _ => rfl)
    (howed := fun _ _ => rfl) (V₀ := V0 m) (opss := [hostOps1]) (hsub := sfx_sub) (hfresh := sfx_fresh) (hkeep := sfx_keeps) (hT := T0_writes)
    (hmain := hmainD m Variants.none) (hA := fun _ w => w.elim0)
    (hin := fun _ => .rfl) (hout := fun _ => .rfl)
    (hQ' := fun r h => ⟨fun c => ⟨((h.1 c).2 main_arg0 (by decide)).trans (V_main_arg0 m c),
      ((h.1 c).2 main_arg1 (by decide)).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c),
      ((h.1 c).2 main_arg5 (by decide)).trans (V_main_arg5 m c),
      ((h.1 c).2 main_arg6 (by decide)).trans (V_main_arg6 m c)⟩, h.2⟩)

end Cert.Kernel.Hand

end
-- ==== Proof.Loop.lean ====
/-
  What the kernel body stores, written with loops: the same operations in the same order.
-/
module

public import proofs.«01_k».proof.Proof.Body

@[expose] public section

set_option maxRecDepth 65536

noncomputable section

namespace Cert.Kernel.Hand

open Cert.Kernel Cert.Kernel.Gen
open Idealize.ShloMosaic Idealize.ShloMosaic.TcCoe Idealize.ShloMosaic.Tactic

variable {F : FTy → Type} [FloatOps F]

/-- `n` further items on top of a list, the last on top. -/
def stack {α : Type} (g : ℕ → α) (L : List α) : ℕ → List α
  | 0 => L
  | t + 1 => g t :: stack g L t

/-- `n` steps of a loop from `z`. -/
def steps {α : Type} (g : ℕ → α → α) (z : α) : ℕ → α
  | 0 => z
  | t + 1 => g t (steps g z t)

/-- Rows `32 r …`, columns `128 t …` of a token-by-model array. -/
theorem inbX (r t : ℕ) : ∀ a, (![32 * (r % 8), 128 * (t % 40)] : Fin 2 → ℕ) a + S32x128.size a ≤ S256x5120.size a := by
  intro a
  have h1 := Nat.mod_lt r (by decide : 0 < 8)
  have h2 := Nat.mod_lt t (by decide : 0 < 40)
  match a with
  | ⟨0, _⟩ => show 32 * (r % 8) + 32 ≤ 256; omega
  | ⟨1, _⟩ => show 128 * (t % 40) + 128 ≤ 5120; omega
abbrev rectX (r t : ℕ) : Rect S256x5120 := Rect.unit ![32 * (r % 8), 128 * (t % 40)] S32x128.size (inbX r t)

theorem inbN (t : ℕ) : ∀ a, (![0, 128 * (t % 40)] : Fin 2 → ℕ) a + S1x128.size a ≤ S1x5120.size a := by
  intro a
  have h2 := Nat.mod_lt t (by decide : 0 < 40)
  match a with
  | ⟨0, _⟩ => show 0 + 1 ≤ 1; omega
  | ⟨1, _⟩ => show 128 * (t % 40) + 128 ≤ 5120; omega
abbrev rectN (t : ℕ) : Rect S1x5120 := Rect.unit ![0, 128 * (t % 40)] S1x128.size (inbN t)

theorem inbS (r : ℕ) : ∀ a, (![32 * (r % 8), 0] : Fin 2 → ℕ) a + S32x128.size a ≤ S256x128.size a := by
  intro a
  have h1 := Nat.mod_lt r (by decide : 0 < 8)
  match a with
  | ⟨0, _⟩ => show 32 * (r % 8) + 32 ≤ 256; omega
  | ⟨1, _⟩ => show 0 + 128 ≤ 128; omega
abbrev rectS (r : ℕ) : Rect S256x128 := Rect.unit ![32 * (r % 8), 0] S32x128.size (inbS r)

variable (c : Dev nD) (x0 : Bf (F := F) c (Memref.whole main_v0)) (x3 : Bf (F := F) c (Memref.whole main_v1)) (s3 : Bf (F := F) c (Memref.whole cc0_scratch3))

/-- Rows `64 k …` of the tokens. -/
theorem inbC (k : ℕ) : ∀ a, (![64 * (k % 4), 0] : Fin 2 → ℕ) a + S64x5120.size a ≤ S256x5120.size a := by
  intro a
  have h1 := Nat.mod_lt k (by decide : 0 < 4)
  match a with
  | ⟨0, _⟩ => show 64 * (k % 4) + 64 ≤ 256; omega
  | ⟨1, _⟩ => show 0 + 5120 ≤ 5120; omega
abbrev rectC (k : ℕ) : Rect S256x5120 := Rect.unit ![64 * (k % 4), 0] S64x5120.size (inbC k)
/-- The rows copied in by the first `n` transfers. -/
def xPieces (n : ℕ) : List (View.Piece (Elt F) S256x5120 .bf16) :=
  stack (fun k => ⟨rectC k, ReadAs.same.apply (View.read (Elt F) ((Memref.whole main_v0).slice (rectC k) (fun _ => rfl)).view x0)⟩) [] n

/-- The tile of tokens of chunk `r`, column block `t`. -/
def xTile (r t : ℕ) : Vec F S32x128 .bf16 := (Memref.whole cc0_scratch0).view.readCov (xPieces c x0 4) (rectX r t).toLoadRect
/-- The norm weights of column block `t`. -/
def nwTile (t : ℕ) : Vec F S1x128 .f32 :=
  View.readAt (Elt F) (Memref.whole cc0_scratch3).view (rectN t).toLoadRect
    (View.write (Elt F) (Memref.whole cc0_scratch3).view s3 (ReadAs.same.apply (View.read (Elt F) (Memref.whole main_v1).view x3)) Finset.univ)

/-- The sums of squares, lane by lane. -/
def ssAcc (r : ℕ) : FVec F S32x128 .f32 :=
  steps (fun t a => addf a (mulf (extf .f32 (xTile c x0 r t) bitsLt_bf16_f32) (extf .f32 (xTile c x0 r t) bitsLt_bf16_f32)))
    (broadcast S32x128 (Scalar.ofBits .f32 0x00000000#32)) 40
/-- The largest weighted magnitudes, lane by lane. -/
def mxAcc (r : ℕ) : FVec F S32x128 .f32 :=
  steps (fun t a => maximumf a (absf (mulf (extf .f32 (xTile c x0 r t) bitsLt_bf16_f32) (broadcastTo S32x128 (nwTile c x3 s3 t) broadcasts_S1x128_S32x128))))
    (broadcast S32x128 (Scalar.ofBits .f32 0x00000000#32)) 40

/-- One over the root mean square of the rows. -/
def rsRow (ss : FVec F S32x128 .f32) : FVec F S32x1 .f32 :=
  rsqrt (addf (divf (shapeCast S32x1 (multiReduction .add [1] S32 ss 0x00000000#32 reduces_S32x128_S32 (.inl rfl) rfl) shapeCasts_S32_S32x1)
    (broadcast S32x1 (Scalar.ofBits .f32 0x45A00000#32))) (broadcast S32x1 (Scalar.ofBits .f32 0x358637BD#32)))
/-- The largest magnitude of the normalised rows over the code range. -/
def tRow (mx : FVec F S32x128 .f32) (rs : FVec F S32x1 .f32) : FVec F S32x1 .f32 :=
  mulf (mulf (shapeCast S32x1 (multiReduction .maximumf [1] S32 mx 0xFF800000#32 reduces_S32x128_S32 (.inl rfl) rfl) shapeCasts_S32_S32x1) rs)
    (broadcast S32x1 (Scalar.ofBits .f32 0x3B124925#32))
/-- The exponent field of the scale, by counting thresholds along the row. -/
def ebRow (t : FVec F S32x1 .f32) : IVec S32x1 32 :=
  select (cmpf .oeq t (broadcast S32x1 (Scalar.ofBits .f32 0x00000000#32))) (broadcast S32x1 126#32)
    (subi (fptosi 32 (shapeCast S32x1 (multiReduction .add [1] S32
      (select (cmpf .oge (broadcastTo S32x253 t broadcasts_S32x1_S32x253)
        (broadcastTo S32x253 (bitcastToFloat .f32 (shli (iota .tc S1x253 32 [1] iota_S1x253_d1_w32) (broadcast S1x253 23#32)) : FVec F S1x253 .f32) broadcasts_S1x253_S32x253))
        (broadcast S32x253 (Scalar.ofBits .f32 0x3F800000#32)) (broadcast S32x253 (Scalar.ofBits .f32 0x00000000#32)) : FVec F S32x253 .f32)
      0x00000000#32 reduces_S32x253_S32 (.inl rfl) rfl) shapeCasts_S32_S32x1)) (broadcast S32x1 1#32))
/-- The scale of the rows, along the lanes. -/
def scRow (t : FVec F S32x1 .f32) : FVec F S32x128 .f32 :=
  shapeCast S32x128 (broadcastTo S32x128 (shapeCast S32x1 (bitcastToFloat .f32 (shli (addi (ebRow t) (broadcast S32x1 1#32)) (broadcast S32x1 23#32)))
    shapeCasts_S32x1_S32x1) broadcasts_S32x1_S32x128) shapeCasts_S32x128_S32x128
/-- What the rows are multiplied by before the weights. -/
def rsiRow (t : FVec F S32x1 .f32) (rs : FVec F S32x1 .f32) : FVec F S32x128 .f32 :=
  broadcastTo S32x128 (shapeCast S32x1 (mulf rs (bitcastToFloat .f32 (shli (subi (broadcast S32x1 253#32) (ebRow t)) (broadcast S32x1 23#32))))
    shapeCasts_S32x1_S32x1) broadcasts_S32x1_S32x128
/-- The codes of one tile. -/
def codeTile (rsi : FVec F S32x128 .f32) (x : Vec F S32x128 .bf16) (nw : Vec F S1x128 .f32) : FVec F S32x128 .fp8e4m3 :=
  shapeCast S32x128 (truncf .fp8e4m3 (minimumf (broadcast S32x128 (Scalar.ofBits .f32 0x43E00000#32)) (maximumf (broadcast S32x128 (Scalar.ofBits .f32 0xC3E00000#32))
    (mulf (mulf (extf .f32 x bitsLt_bf16_f32) rsi) (broadcastTo S32x128 nw broadcasts_S1x128_S32x128)))) bitsLt_fp8e4m3_f32) shapeCasts_S32x128_S32x128

def tChunk (r : ℕ) : FVec F S32x1 .f32 := tRow (mxAcc c x0 x3 s3 r) (rsRow (ssAcc c x0 r))
def rsiChunk (r : ℕ) : FVec F S32x128 .f32 := rsiRow (tChunk c x0 x3 s3 r) (rsRow (ssAcc c x0 r))

/-- The scale rows stored by the first `n` chunks. -/
def hsPieces (n : ℕ) : List (View.Piece (Elt F) S256x128 .f32) :=
  stack (fun r => ⟨rectS r, scRow (tChunk c x0 x3 s3 r)⟩) [] n
/-- The code tiles stored by the first `n` chunks. -/
def hqPieces : ℕ → List (View.Piece (Elt F) S256x5120 .fp8e4m3)
  | 0 => []
  | r + 1 => stack (fun t => ⟨rectX r t, codeTile (rsiChunk c x0 x3 s3 r) (xTile c x0 r t) (nwTile c x3 s3 t)⟩) (hqPieces r) 40

theorem hs_eq : kernelRun.sl.Hs8_8 c x0 x3 s3 = hsPieces c x0 x3 s3 8 := by sl_kernel_rfl

end Cert.Kernel.Hand

end
-- ==== Proof.Loop2.lean ====
/-
  What the kernel body stores, written with loops: the products, the scaled columns and the heads.
-/
module

public import proofs.«01_k».proof.Proof.Loop

@[expose] public section

set_option maxRecDepth 65536

noncomputable section

namespace Cert.Kernel.Hand

open Cert.Kernel Cert.Kernel.Gen
open Idealize.ShloMosaic Idealize.ShloMosaic.TcCoe Idealize.ShloMosaic.Tactic

variable {F : FTy → Type} [FloatOps F]

theorem inbW (p : ℕ) : ∀ a, (![p % 8, 0, 0] : Fin 3 → ℕ) a + S1x5120x512.size a ≤ S8x5120x512.size a := by
  intro a
  have h0 := Nat.mod_lt (p) (by decide : 0 < 8)
  match a with
  | ⟨0, _⟩ => show p % 8 + 1 ≤ 8; omega
  | ⟨1, _⟩ => show 0 + 5120 ≤ 5120; omega
  | ⟨2, _⟩ => show 0 + 512 ≤ 512; omega
/-- Slot of the ring of weight blocks. -/
abbrev rectW (p : ℕ) : Rect S8x5120x512 := Rect.unit ![p % 8, 0, 0] S1x5120x512.size (inbW p)

theorem inbA (p : ℕ) : ∀ a, (![0, 512 * (p % 20)] : Fin 2 → ℕ) a + S5120x512.size a ≤ S5120x10240.size a := by
  intro a
  have h0 := Nat.mod_lt (p) (by decide : 0 < 20)
  match a with
  | ⟨0, _⟩ => show 0 + 5120 ≤ 5120; omega
  | ⟨1, _⟩ => show 512 * (p % 20) + 512 ≤ 10240; omega
/-- Columns `512 p …` of the weights. -/
abbrev rectA (p : ℕ) : Rect S5120x10240 := Rect.unit ![0, 512 * (p % 20)] S5120x512.size (inbA p)

theorem inbWs (p n : ℕ) : ∀ a, (![0, 512 * (p % 20) + 128 * (n % 4)] : Fin 2 → ℕ) a + S1x128.size a ≤ S1x10240.size a := by
  intro a
  have h0 := Nat.mod_lt (p) (by decide : 0 < 20)
  have h1 := Nat.mod_lt (n) (by decide : 0 < 4)
  match a with
  | ⟨0, _⟩ => show 0 + 1 ≤ 1; omega
  | ⟨1, _⟩ => show 512 * (p % 20) + 128 * (n % 4) + 128 ≤ 10240; omega
/-- Lanes of the column scales. -/
abbrev rectWs (p n : ℕ) : Rect S1x10240 := Rect.unit ![0, 512 * (p % 20) + 128 * (n % 4)] S1x128.size (inbWs p n)

theorem inbY (p : ℕ) : ∀ a, (![p % 2, 0, 0] : Fin 3 → ℕ) a + S1x256x512.size a ≤ S2x256x512.size a := by
  intro a
  have h0 := Nat.mod_lt (p) (by decide : 0 < 2)
  match a with
  | ⟨0, _⟩ => show p % 2 + 1 ≤ 2; omega
  | ⟨1, _⟩ => show 0 + 256 ≤ 256; omega
  | ⟨2, _⟩ => show 0 + 512 ≤ 512; omega
/-- Half of the product buffer. -/
abbrev rectY (p : ℕ) : Rect S2x256x512 := Rect.unit ![p % 2, 0, 0] S1x256x512.size (inbY p)

theorem inbYl (p b n : ℕ) : ∀ a, (![p % 2, 128 * (b % 2), 128 * (n % 4)] : Fin 3 → ℕ) a + S1x128x128.size a ≤ S2x256x512.size a := by
  intro a
  have h0 := Nat.mod_lt (p) (by decide : 0 < 2)
  have h1 := Nat.mod_lt (b) (by decide : 0 < 2)
  have h2 := Nat.mod_lt (n) (by decide : 0 < 4)
  match a with
  | ⟨0, _⟩ => show p % 2 + 1 ≤ 2; omega
  | ⟨1, _⟩ => show 128 * (b % 2) + 128 ≤ 256; omega
  | ⟨2, _⟩ => show 128 * (n % 4) + 128 ≤ 512; omega
/-- A square of the product buffer. -/
abbrev rectYl (p b n : ℕ) : Rect S2x256x512 := Rect.unit ![p % 2, 128 * (b % 2), 128 * (n % 4)] S1x128x128.size (inbYl p b n)

theorem inbT (b p n : ℕ) : ∀ a, (![b % 2, 512 * (p % 5) + 128 * (n % 4), 0] : Fin 3 → ℕ) a + S1x128x128.size a ≤ S2x2560x128.size a := by
  intro a
  have h0 := Nat.mod_lt (p) (by decide : 0 < 5)
  have h1 := Nat.mod_lt (b) (by decide : 0 < 2)
  have h2 := Nat.mod_lt (n) (by decide : 0 < 4)
  match a with
  | ⟨0, _⟩ => show b % 2 + 1 ≤ 2; omega
  | ⟨1, _⟩ => show 512 * (p % 5) + 128 * (n % 4) + 128 ≤ 2560; omega
  | ⟨2, _⟩ => show 0 + 128 ≤ 128; omega
/-- A square of the transposed group. -/
abbrev rectT (b p n : ℕ) : Rect S2x2560x128 := Rect.unit ![b % 2, 512 * (p % 5) + 128 * (n % 4), 0] S1x128x128.size (inbT b p n)

theorem inbH (b n : ℕ) : ∀ a, (![b % 2, 160 * (n % 16), 0] : Fin 3 → ℕ) a + S1x160x128.size a ≤ S2x2560x128.size a := by
  intro a
  have h0 := Nat.mod_lt (b) (by decide : 0 < 2)
  have h1 := Nat.mod_lt (n) (by decide : 0 < 16)
  match a with
  | ⟨0, _⟩ => show b % 2 + 1 ≤ 2; omega
  | ⟨1, _⟩ => show 160 * (n % 16) + 160 ≤ 2560; omega
  | ⟨2, _⟩ => show 0 + 128 ≤ 128; omega
/-- A head of the transposed group. -/
abbrev rectH (b n : ℕ) : Rect S2x2560x128 := Rect.unit ![b % 2, 160 * (n % 16), 0] S1x160x128.size (inbH b n)

theorem inbB (b : ℕ) : ∀ a, (![b % 2, 0, 0] : Fin 3 → ℕ) a + S1x1x128.size a ≤ S2x8x128.size a := by
  intro a
  have h0 := Nat.mod_lt (b) (by decide : 0 < 2)
  match a with
  | ⟨0, _⟩ => show b % 2 + 1 ≤ 2; omega
  | ⟨1, _⟩ => show 0 + 1 ≤ 8; omega
  | ⟨2, _⟩ => show 0 + 128 ≤ 128; omega
/-- A row of token scales. -/
abbrev rectB (b : ℕ) : Rect S2x8x128 := Rect.unit ![b % 2, 0, 0] S1x1x128.size (inbB b)

theorem inbR (b : ℕ) : ∀ a, (![b % 2, 0, 0] : Fin 3 → ℕ) a + S1x80x128.size a ≤ S2x80x128.size a := by
  intro a
  have h0 := Nat.mod_lt (b) (by decide : 0 < 2)
  match a with
  | ⟨0, _⟩ => show b % 2 + 1 ≤ 2; omega
  | ⟨1, _⟩ => show 0 + 80 ≤ 80; omega
  | ⟨2, _⟩ => show 0 + 128 ≤ 128; omega
/-- A table of angles. -/
abbrev rectR (b : ℕ) : Rect S2x80x128 := Rect.unit ![b % 2, 0, 0] S1x80x128.size (inbR b)

theorem inbQ (b h d : ℕ) : ∀ a, (![b % 2, h % 48, 80 * (d % 2), 0] : Fin 4 → ℕ) a + S1x1x80x128.size a ≤ S2x48x160x128.size a := by
  intro a
  have h0 := Nat.mod_lt (b) (by decide : 0 < 2)
  have h1 := Nat.mod_lt (h) (by decide : 0 < 48)
  have h2 := Nat.mod_lt (d) (by decide : 0 < 2)
  match a with
  | ⟨0, _⟩ => show b % 2 + 1 ≤ 2; omega
  | ⟨1, _⟩ => show h % 48 + 1 ≤ 48; omega
  | ⟨2, _⟩ => show 80 * (d % 2) + 80 ≤ 160; omega
  | ⟨3, _⟩ => show 0 + 128 ≤ 128; omega
/-- Half a head of the queries. -/
abbrev rectQ (b h d : ℕ) : Rect S2x48x160x128 := Rect.unit ![b % 2, h % 48, 80 * (d % 2), 0] S1x1x80x128.size (inbQ b h d)

theorem inbK (b h : ℕ) : ∀ a, (![b % 2, h % 8, 0, 0] : Fin 4 → ℕ) a + S1x1x160x128.size a ≤ S2x8x160x128.size a := by
  intro a
  have h0 := Nat.mod_lt (b) (by decide : 0 < 2)
  have h1 := Nat.mod_lt (h) (by decide : 0 < 8)
  match a with
  | ⟨0, _⟩ => show b % 2 + 1 ≤ 2; omega
  | ⟨1, _⟩ => show h % 8 + 1 ≤ 8; omega
  | ⟨2, _⟩ => show 0 + 160 ≤ 160; omega
  | ⟨3, _⟩ => show 0 + 128 ≤ 128; omega
/-- A head of the keys or values. -/
abbrev rectK (b h : ℕ) : Rect S2x8x160x128 := Rect.unit ![b % 2, h % 8, 0, 0] S1x1x160x128.size (inbK b h)

theorem inbZ (b h : ℕ) : ∀ a, (![b % 2, h % 8, 0] : Fin 3 → ℕ) a + S1x1x128.size a ≤ S2x8x128.size a := by
  intro a
  have h0 := Nat.mod_lt (b) (by decide : 0 < 2)
  have h1 := Nat.mod_lt (h) (by decide : 0 < 8)
  match a with
  | ⟨0, _⟩ => show b % 2 + 1 ≤ 2; omega
  | ⟨1, _⟩ => show h % 8 + 1 ≤ 8; omega
  | ⟨2, _⟩ => show 0 + 128 ≤ 128; omega
/-- A row of key or value scales. -/
abbrev rectZ (b h : ℕ) : Rect S2x8x128 := Rect.unit ![b % 2, h % 8, 0] S1x1x128.size (inbZ b h)

variable (c : Dev nD) (x0 : Bf (F := F) c (Memref.whole main_v0)) (x1 : Bf (F := F) c (Memref.whole main_arg3)) (x2 : Bf (F := F) c (Memref.whole main_arg1))
  (x3 : Bf (F := F) c (Memref.whole main_v1)) (x4 : Bf (F := F) c (Memref.whole main_v2)) (x5 : Bf (F := F) c (Memref.whole main_v3)) (x6 : Bf (F := F) c (Memref.whole main_v4))
  (s1 : Bf (F := F) c (Memref.whole cc0_scratch1)) (s2 : Bf (F := F) c (Memref.whole cc0_scratch2)) (s3 : Bf (F := F) c (Memref.whole cc0_scratch3))
  (s4 : Bf (F := F) c (Memref.whole cc0_scratch4)) (s5 : Bf (F := F) c (Memref.whole cc0_scratch5)) (s6 : Bf (F := F) c (Memref.whole cc0_scratch6))

/-- The ring of weight blocks after the first `n` copies. -/
def wRing (n : ℕ) : Bf (F := F) c (Memref.whole cc0_scratch1) :=
  steps (fun p f => View.write (Elt F) (((Memref.whole cc0_scratch1).slice (rectW p) (fun _ => rfl)).squeeze S5120x512 squeezes_S1x5120x512_S5120x512).view f
    (ReadAs.same.apply (View.read (Elt F) ((Memref.whole main_arg3).slice (rectA p) (fun _ => rfl)).view x1)) Finset.univ) s1 n
/-- The weight block of step `p`, read from its slot. -/
def wTile (p : ℕ) : Vec F S1x5120x512 .fp8e4m3 :=
  View.readAt (Elt F) (Memref.whole cc0_scratch1).view (rectW p).toLoadRect (wRing c x1 s1 (min (p + 8) 20))
/-- The product of step `p`. -/
def ySq (p : ℕ) : FVec F S1x256x512 .f32 :=
  shapeCast S1x256x512 (matmul dot_S256x5120_S5120x512_S256x512_1_0_0_1_n_n none (kernelRun.sl.v7865 c x0 x3 s3)
    (shapeCast S5120x512 (wTile c x1 s1 p) shapeCasts_S1x5120x512_S5120x512) (constant S256x512 .f32 0x00000000#32)) shapeCasts_S256x512_S1x256x512
/-- The products stored by the first `n` steps. -/
def yPieces (n : ℕ) : List (View.Piece (Elt F) S2x256x512 .f32) := stack (fun p => ⟨rectY p, ySq c x0 x1 x3 s1 s3 p⟩) [] n

/-- Lanes `128 n …` of the column scales of step `p`. -/
def wsTile (p n : ℕ) : Vec F S1x128 .f32 :=
  View.readAt (Elt F) (Memref.whole cc0_scratch4).view (rectWs p n).toLoadRect
    (View.write (Elt F) (Memref.whole cc0_scratch4).view s4 (ReadAs.same.apply (View.read (Elt F) (Memref.whole main_v2).view x4)) Finset.univ)
/-- A square of the product of step `p`. -/
def yTile (p b n : ℕ) : Vec F S1x128x128 .f32 :=
  (Memref.whole cc0_scratch15).view.readCov (yPieces c x0 x1 x3 s1 s3 (min (p + 2) 20)) (rectYl p b n).toLoadRect
/-- A square scaled by its columns' scales and transposed. -/
def tSq (ws : Vec F S1x128 .f32) (y : Vec F S1x128x128 .f32) : FVec F S1x128x128 .f32 :=
  shapeCast S1x128x128 (transpose S128x128 [1, 0] (mulf (shapeCast S128x128 y shapeCasts_S1x128x128_S128x128) (broadcastTo S128x128 ws broadcasts_S1x128_S128x128))
    transposes_S128x128_p1_0_S128x128) shapeCasts_S128x128_S1x128x128
/-- The square of step `p`, block `n`, batch `b`, as it is stored. -/
def ytPiece (p n b : ℕ) : View.Piece (Elt F) S2x2560x128 .f32 := ⟨rectT b p n, tSq (wsTile c x4 s4 p n) (yTile c x0 x1 x3 s1 s3 p b n)⟩
/-- The squares stored by the first `n` steps. -/
def ytPieces : ℕ → List (View.Piece (Elt F) S2x2560x128 .f32)
  | 0 => []
  | p + 1 => ytPiece c x0 x1 x3 x4 s1 s3 s4 p 3 1 :: ytPiece c x0 x1 x3 x4 s1 s3 s4 p 3 0
    :: ytPiece c x0 x1 x3 x4 s1 s3 s4 p 2 1 :: ytPiece c x0 x1 x3 x4 s1 s3 s4 p 2 0
    :: ytPiece c x0 x1 x3 x4 s1 s3 s4 p 1 1 :: ytPiece c x0 x1 x3 x4 s1 s3 s4 p 1 0
    :: ytPiece c x0 x1 x3 x4 s1 s3 s4 p 0 1 :: ytPiece c x0 x1 x3 x4 s1 s3 s4 p 0 0 :: ytPieces p

/-- How many steps' squares are stored when head `h` is read. -/
def ytN (h : ℕ) : ℕ := 5 * (h / 16) + min (h % 16 / 3) 4 + 1
/-- Head `h` of batch `b`, scaled by its tokens' scales. -/
def headT (b h : ℕ) : FVec F S160x128 .f32 :=
  mulf (shapeCast S160x128 ((Memref.whole cc0_scratch16).view.readCov (ytPieces c x0 x1 x3 x4 s1 s3 s4 (ytN h)) (rectH b h).toLoadRect) shapeCasts_S1x160x128_S160x128)
    (broadcastTo S160x128 (shapeCast S1x128 ((Memref.whole cc0_scratch10).view.readCov (kernelRun.sl.Hs10_2 c x0 x3 s3) (rectB b).toLoadRect)
      shapeCasts_S1x1x128_S1x128) broadcasts_S1x128_S160x128)

/-- A head over its root mean square, times the weights. -/
def normT (t w : FVec F S160x128 .f32) : FVec F S160x128 .f32 :=
  mulf (mulf t (broadcastTo S160x128 (rsqrt (addf (divf (shapeCast S1x128 (multiReduction .add [0] S128 (mulf t t) 0x00000000#32 reduces_S160x128_S128 (.inl rfl) rfl)
    shapeCasts_S128_S1x128) (broadcast S1x128 (Scalar.ofBits .f32 0x43200000#32))) (broadcast S1x128 (Scalar.ofBits .f32 0x358637BD#32)))) broadcasts_S1x128_S160x128)) w
def lo (t : FVec F S160x128 .f32) : FVec F S80x128 .f32 := extractStridedSlice S80x128 ![0, 0] t slices_S160x128_o0_0_S80x128
def hi (t : FVec F S160x128 .f32) : FVec F S80x128 .f32 := extractStridedSlice S80x128 ![80, 0] t slices_S160x128_o80_0_S80x128
/-- The halves of a head turned by the angles. -/
def rotLo (t : FVec F S160x128 .f32) (cs sn : FVec F S80x128 .f32) : FVec F S80x128 .f32 := subf (mulf (lo t) cs) (mulf (hi t) sn)
def rotHi (t : FVec F S160x128 .f32) (cs sn : FVec F S80x128 .f32) : FVec F S80x128 .f32 := addf (mulf (hi t) cs) (mulf (lo t) sn)

def cosT (b : ℕ) : FVec F S80x128 .f32 :=
  shapeCast S80x128 ((Memref.whole cc0_scratch11).view.readCov (kernelRun.sl.Hs11_2 c x2 s2) (rectR b).toLoadRect) shapeCasts_S1x80x128_S80x128
def sinT (b : ℕ) : FVec F S80x128 .f32 :=
  shapeCast S80x128 ((Memref.whole cc0_scratch12).view.readCov (kernelRun.sl.Hs12_2 c x2 s2) (rectR b).toLoadRect) shapeCasts_S1x80x128_S80x128
/-- The query head `h` of batch `b`, normalised. -/
def qT (b h : ℕ) : FVec F S160x128 .f32 := normT (headT c x0 x1 x3 x4 s1 s3 s4 b h) (kernelRun.sl.v8045 c x5 s5)
def qLo (b h : ℕ) : View.Piece (Elt F) S2x48x160x128 .bf16 :=
  ⟨rectQ b h 0, shapeCast S1x1x80x128 (truncf .bf16 (rotLo (qT c x0 x1 x3 x4 x5 s1 s3 s4 s5 b h) (cosT c x2 s2 b) (sinT c x2 s2 b)) bitsLt_bf16_f32) shapeCasts_S80x128_S1x1x80x128⟩
def qHi (b h : ℕ) : View.Piece (Elt F) S2x48x160x128 .bf16 :=
  ⟨rectQ b h 1, shapeCast S1x1x80x128 (truncf .bf16 (rotHi (qT c x0 x1 x3 x4 x5 s1 s3 s4 s5 b h) (cosT c x2 s2 b) (sinT c x2 s2 b)) bitsLt_bf16_f32) shapeCasts_S80x128_S1x1x80x128⟩
/-- The queries stored by the first `n` heads. -/
def qPieces : ℕ → List (View.Piece (Elt F) S2x48x160x128 .bf16)
  | 0 => []
  | h + 1 => qHi c x0 x1 x2 x3 x4 x5 s1 s2 s3 s4 s5 1 h :: qLo c x0 x1 x2 x3 x4 x5 s1 s2 s3 s4 s5 1 h
      :: qHi c x0 x1 x2 x3 x4 x5 s1 s2 s3 s4 s5 0 h :: qLo c x0 x1 x2 x3 x4 x5 s1 s2 s3 s4 s5 0 h :: qPieces h

/-- The largest magnitude of each token of a head, over the code range. -/
def tCol (v : FVec F S160x128 .f32) : FVec F S1x128 .f32 :=
  mulf (shapeCast S1x128 (multiReduction .maximumf [0] S128 (absf v) 0xFF800000#32 reduces_S160x128_S128 (.inl rfl) rfl) shapeCasts_S128_S1x128)
    (broadcast S1x128 (Scalar.ofBits .f32 0x3B124925#32))
/-- The exponent field of the scale, by counting thresholds down the column. -/
def ebCol (t : FVec F S1x128 .f32) : IVec S1x128 32 :=
  select (cmpf .oeq t (broadcast S1x128 (Scalar.ofBits .f32 0x00000000#32))) (broadcast S1x128 126#32)
    (subi (fptosi 32 (shapeCast S1x128 (multiReduction .add [0] S128
      (select (cmpf .oge (broadcastTo S253x128 t broadcasts_S1x128_S253x128)
        (broadcastTo S253x128 (bitcastToFloat .f32 (shli (iota .tc S253x1 32 [0] iota_S253x1_d0_w32) (broadcast S253x1 23#32)) : FVec F S253x1 .f32) broadcasts_S253x1_S253x128))
        (broadcast S253x128 (Scalar.ofBits .f32 0x3F800000#32)) (broadcast S253x128 (Scalar.ofBits .f32 0x00000000#32)) : FVec F S253x128 .f32)
      0x00000000#32 reduces_S253x128_S128 (.inl rfl) rfl) shapeCasts_S128_S1x128)) (broadcast S1x128 1#32))
def scCol (v : FVec F S160x128 .f32) : FVec F S1x1x128 .f32 :=
  shapeCast S1x1x128 (bitcastToFloat .f32 (shli (addi (ebCol (tCol v)) (broadcast S1x128 1#32)) (broadcast S1x128 23#32)) : FVec F S1x128 .f32) shapeCasts_S1x128_S1x1x128
def codeCol (v : FVec F S160x128 .f32) : FVec F S1x1x160x128 .fp8e4m3 :=
  shapeCast S1x1x160x128 (truncf .fp8e4m3 (minimumf (broadcast S160x128 (Scalar.ofBits .f32 0x43E00000#32)) (maximumf (broadcast S160x128 (Scalar.ofBits .f32 0xC3E00000#32))
    (mulf v (broadcastTo S160x128 (bitcastToFloat .f32 (shli (subi (broadcast S1x128 253#32) (ebCol (tCol v))) (broadcast S1x128 23#32)) : FVec F S1x128 .f32) broadcasts_S1x128_S160x128))))
    bitsLt_fp8e4m3_f32) shapeCasts_S160x128_S1x1x160x128

/-- The key head `h` of batch `b`, normalised and turned. -/
def kT (b h : ℕ) : FVec F S160x128 .f32 :=
  concatenate S160x128 0 [⟨S80x128, rotLo (normT (headT c x0 x1 x3 x4 s1 s3 s4 b (48 + h)) (kernelRun.sl.v13128 c x6 s6)) (cosT c x2 s2 b) (sinT c x2 s2 b)⟩,
    ⟨S80x128, rotHi (normT (headT c x0 x1 x3 x4 s1 s3 s4 b (48 + h)) (kernelRun.sl.v13128 c x6 s6)) (cosT c x2 s2 b) (sinT c x2 s2 b)⟩] concatenates_S80x128_S80x128_S160x128_d0
/-- The value head `h` of batch `b`. -/
def vT (b h : ℕ) : FVec F S160x128 .f32 := headT c x0 x1 x3 x4 s1 s3 s4 b (56 + h)
/-- Codes and scales stored, head by head, batch by batch. -/
def codePieces (v : ℕ → ℕ → FVec F S160x128 .f32) (n : ℕ) : List (View.Piece (Elt F) S2x8x160x128 .fp8e4m3) :=
  stack (fun k => ⟨rectK k (k / 2), codeCol (v (k % 2) (k / 2))⟩) [] n
def scalePieces (v : ℕ → ℕ → FVec F S160x128 .f32) (n : ℕ) : List (View.Piece (Elt F) S2x8x128 .f32) :=
  stack (fun k => ⟨rectZ k (k / 2), scCol (v (k % 2) (k / 2))⟩) [] n

end Cert.Kernel.Hand

end
-- ==== Proof.Loop3.lean ====
/-
  What the kernel body stores, written with loops: the run's own terms are these.
-/
module

public import proofs.«01_k».proof.Proof.Loop2

@[expose] public section

set_option maxRecDepth 65536

noncomputable section

namespace Cert.Kernel.Hand

open Cert.Kernel Cert.Kernel.Gen
open Idealize.ShloMosaic Idealize.ShloMosaic.TcCoe Idealize.ShloMosaic.Tactic

variable {F : FTy → Type} [FloatOps F]

variable (c : Dev nD) (x0 : Bf (F := F) c (Memref.whole main_v0)) (x1 : Bf (F := F) c (Memref.whole main_arg3)) (x2 : Bf (F := F) c (Memref.whole main_arg1))
  (x3 : Bf (F := F) c (Memref.whole main_v1)) (x4 : Bf (F := F) c (Memref.whole main_v2)) (x5 : Bf (F := F) c (Memref.whole main_v3)) (x6 : Bf (F := F) c (Memref.whole main_v4))
  (s1 : Bf (F := F) c (Memref.whole cc0_scratch1)) (s2 : Bf (F := F) c (Memref.whole cc0_scratch2)) (s3 : Bf (F := F) c (Memref.whole cc0_scratch3))
  (s4 : Bf (F := F) c (Memref.whole cc0_scratch4)) (s5 : Bf (F := F) c (Memref.whole cc0_scratch5)) (s6 : Bf (F := F) c (Memref.whole cc0_scratch6))

set_option maxHeartbeats 0

theorem hq_eq : kernelRun.sl.Hs7_320 c x0 x3 s3 = hqPieces c x0 x3 s3 8 := by sl_kernel_rfl
theorem y_eq : kernelRun.sl.Hs15_20 c x0 x1 x3 s1 s3 = yPieces c x0 x1 x3 s1 s3 20 := by sl_kernel_rfl
theorem yt_eq : kernelRun.sl.Hs16_160 c x0 x1 x3 x4 s1 s3 s4 = ytPieces c x0 x1 x3 x4 s1 s3 s4 20 := by sl_kernel_rfl
theorem q_eq : kernelRun.sl.Hs17_192 c x0 x1 x2 x3 x4 x5 s1 s2 s3 s4 s5 = qPieces c x0 x1 x2 x3 x4 x5 s1 s2 s3 s4 s5 48 := by sl_kernel_rfl
theorem kc_eq : kernelRun.sl.Hs18_16 c x0 x1 x2 x3 x4 x6 s1 s2 s3 s4 s6 = codePieces (kT c x0 x1 x2 x3 x4 x6 s1 s2 s3 s4 s6) 16 := by sl_kernel_rfl
theorem ks_eq : kernelRun.sl.Hs19_16 c x0 x1 x2 x3 x4 x6 s1 s2 s3 s4 s6 = scalePieces (kT c x0 x1 x2 x3 x4 x6 s1 s2 s3 s4 s6) 16 := by sl_kernel_rfl
theorem vc_eq : kernelRun.sl.Hs20_16 c x0 x1 x3 x4 s1 s3 s4 = codePieces (vT c x0 x1 x3 x4 s1 s3 s4) 16 := by sl_kernel_rfl
theorem vs_eq : kernelRun.sl.Hs21_16 c x0 x1 x3 x4 s1 s3 s4 = scalePieces (vT c x0 x1 x3 x4 s1 s3 s4) 16 := by sl_kernel_rfl

end Cert.Kernel.Hand

end
-- ==== Proof.Reads.lean ====
/-
  Reading a buffer after a list of writes, at one place.
-/
module

public import proofs.«01_k».proof.Proof.Loop
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic

section generic
variable {sig : RefSig} {κ : Kind} {sp : Space} {s : Shape} {e : EltTy} {Val : EltTy → Type}

/-- The piece has value `z` at `y`, if it reaches `y` at all. -/
def Agrees (p : View.Piece Val s e) (y : s.Idx) (z : Val e) : Prop := ∀ x : p.1.shape.Idx, p.1.emb x = y → p.2 x = z

/-- The newest writes of the list that reach `y` have value `z` there. -/
inductive Reads (y : s.Idx) (z : Val e) : List (View.Piece Val s e) → Prop
  | hit (p : View.Piece Val s e) (L : List (View.Piece Val s e)) (h : Agrees p y z) (hy : y ∈ p.1.set) : Reads y z (p :: L)
  | skip (p : View.Piece Val s e) (L : List (View.Piece Val s e)) (h : Agrees p y z) (hL : Reads y z L) : Reads y z (p :: L)

/-- Then the buffer reads `z` at `y`. -/
theorem Reads.read {y : s.Idx} {z : Val e} {L : List (View.Piece Val s e)} (h : Reads y z L) (v : View sig κ sp s e) (f : v.ty.Contents Val) :
    v.read Val (v.writes Val f L) y = z := by
  have hit : ∀ (p : View.Piece Val s e) (L : List (View.Piece Val s e)), Agrees p y z → y ∈ p.1.set → v.read Val (v.writes Val f (p :: L)) y = z := by
    intro p L ha hy
    obtain ⟨x, rfl⟩ : ∃ x, p.1.emb x = y := p.1.exists_idx_of_mem hy
    obtain ⟨r, w⟩ := p
    rw [View.read_writes_cons_emb]
    exact ha x rfl
  induction h with
  | hit p L ha hy => exact hit p L ha hy
  | skip p L ha hL ih =>
    by_cases hy : y ∈ p.1.set
    · exact hit p L ha hy
    · rw [View.read_writes_cons_miss _ _ _ _ _ hy]; exact ih

/-- A piece of a stack reaches `y`, and from it on all agree. -/
theorem Reads.stack {y : s.Idx} {z : Val e} (g : ℕ → View.Piece Val s e) (L : List (View.Piece Val s e)) (k : ℕ) (hy : y ∈ (g k).1.set) :
    ∀ n, k < n → (∀ j, k ≤ j → j < n → Agrees (g j) y z) → Reads y z (Hand.stack g L n)
  | n + 1, hk, ha => by
    rcases Nat.lt_succ_iff_lt_or_eq.mp hk with h | rfl
    · exact .skip _ _ (ha n (by omega) (by omega)) (Reads.stack g L k hy n h fun j h1 h2 => ha j h1 (by omega))
    · exact .hit _ _ (ha k (le_refl _) (by omega)) hy

/-- A whole stack agrees, and what is below it reads `z`. -/
theorem Reads.under {y : s.Idx} {z : Val e} (g : ℕ → View.Piece Val s e) (L : List (View.Piece Val s e)) (hL : Reads y z L) :
    ∀ n, (∀ j, j < n → Agrees (g j) y z) → Reads y z (Hand.stack g L n)
  | 0, _ => hL
  | n + 1, ha => .skip _ _ (ha n (by omega)) (Reads.under g L hL n fun j h2 => ha j (by omega))

/-- A piece that starts at `off`: where it reaches. -/
theorem mem_unit {off size : Fin s.rank → ℕ} (inb : ∀ a, off a + size a ≤ s.size a) (y : s.Idx)
    (h : ∀ a, off a ≤ (y a).val ∧ (y a).val < off a + size a) : y ∈ (Rect.unit off size inb).set :=
  (Rect.unit off size inb).mem_set.mpr fun a => ⟨(y a).val - off a, by have := h a; show _ < size a; omega,
    by have := h a; show (y a).val = off a + 1 * _; omega⟩

/-- A piece that starts at `off` agrees if its value does at every place of it that lands on `y`. -/
theorem agrees_unit {off size : Fin s.rank → ℕ} (inb : ∀ a, off a + size a ≤ s.size a) (w : (Rect.unit off size inb).shape.Idx → Val e) (y : s.Idx) (z : Val e)
    (h : ∀ x : (Rect.unit off size inb).shape.Idx, (∀ a, (y a).val = off a + (x a).val) → w x = z) :
    Agrees (Val := Val) ⟨Rect.unit off size inb, w⟩ y z := fun x hx => h x fun a => by
  rw [← hx]; show off a + 1 * (x a).val = _; omega

/-- What a covered load reads. -/
theorem readCov_of [∀ e, Nonempty (Val e)] (v : View sig κ sp s e) (L : List (View.Piece Val s e)) (B : LoadRect s) (j : B.shape.Idx) (z : Val e)
    (h : Reads (B.idx j) z L) : v.readCov L B j = z := h.read v v.junk

/-- Steps of a loop that keep a relation. -/
theorem steps_ind {α : Type} (g : ℕ → α → α) (z : α) (P : ℕ → α → Prop) (h0 : P 0 z) (hs : ∀ n a, P n a → P (n + 1) (g n a)) : ∀ n, P n (steps g z n)
  | 0 => h0
  | n + 1 => hs n _ (steps_ind g z P h0 hs n)

end generic

variable (c : Dev nD) (x0 : Bf (F := Ideal) c (Memref.whole main_v0)) (x3 : Bf (F := Ideal) c (Memref.whole main_v1)) (s3 : Bf (F := Ideal) c (Memref.whole cc0_scratch3))

/-- A tile of the tokens. -/
theorem xTile_apply (r t : ℕ) (hr : r < 8) (ht : t < 40) (i : Fin 32) (l : Fin 128) :
    xTile c x0 r t (ix2 i l) = x0 (ix2 (n0 := 256) (n1 := 5120) ⟨32 * r + i.val, by omega⟩ ⟨128 * t + l.val, by omega⟩) := by
  unfold xTile
  apply readCov_of
  refine Reads.stack _ _ ((32 * r + i.val) / 64) ?_ 4 (by omega) ?_
  · refine mem_unit (inbC _) _ fun a => ?_
    match a with
    | ⟨0, _⟩ => show 64 * ((32 * r + i.val) / 64 % 4) ≤ 32 * (r % 8) + 1 * i.val ∧ 32 * (r % 8) + 1 * i.val < 64 * ((32 * r + i.val) / 64 % 4) + 64; omega
    | ⟨1, _⟩ => show 0 ≤ 128 * (t % 40) + 1 * l.val ∧ 128 * (t % 40) + 1 * l.val < 0 + 5120; omega
  · intro k _ hk
    refine agrees_unit _ _ _ _ fun x hx => ?_
    have h0 : 32 * (r % 8) + 1 * i.val = 64 * (k % 4) + (x 0).val := hx 0
    have h1 : 128 * (t % 40) + 1 * l.val = 0 + (x 1).val := hx 1
    show x0 _ = x0 _
    congr 1
    funext a
    apply Fin.ext
    match a with
    | ⟨0, _⟩ => show 64 * (k % 4) + 1 * (x 0).val = 32 * r + i.val; omega
    | ⟨1, _⟩ => show 0 + 1 * (x 1).val = 128 * t + l.val; omega

/-- A tile of the norm weights. -/
theorem nwTile_apply (t : ℕ) (ht : t < 40) (l : Fin 128) : nwTile c x3 s3 t (ix2 0 l) = x3 (ix2 (n0 := 1) (n1 := 5120) 0 ⟨128 * t + l.val, by omega⟩) := by
  unfold nwTile
  rw [View.readAt_apply, View.read_write_univ]
  show x3 _ = x3 _
  congr 1
  funext a
  apply Fin.ext
  match a with
  | ⟨0, _⟩ => show 0 + 1 * 0 = 0; omega
  | ⟨1, _⟩ => show 128 * (t % 40) + 1 * l.val = 128 * t + l.val; omega

end Cert.Kernel.Hand

end
-- ==== Proof.Expo.lean ====
/-
  Scalar mathematics over the extended reals: the power-of-two scale by logarithm and by counting thresholds.
-/
module

public import Idealize.ShloMosaic.Lib.Pointwise

@[expose] public section

noncomputable section

namespace Cert.Quant

open Idealize.ShloMosaic

/-- One over the largest code. -/
abbrev kap : EReal := Ideal.ofBits .f32 0x3B124925#32

/-- The exponent of the scale of a group whose largest magnitude is `a`. -/
def expo (a : EReal) : EReal :=
  if a = 0 then 0 else min (Ideal.ofBits .f32 0x42FC0000#32) (max (Ideal.ofBits .f32 0xC2FC0000#32)
    (Ideal.liftRound Int.floor (Ideal.div (Ideal.log (a * kap)) (Ideal.log (Ideal.ofBits .f32 0x40000000#32))) + 1))

/-- The threshold of exponent field `k`. -/
abbrev thr (k : ℕ) : EReal := Ideal.ofBits .f32 (BitVec.ofNat 32 k <<< 23)

/-- The exponent field found by counting thresholds. -/
def field (t : EReal) : BitVec 32 :=
  if t = 0 then 126#32 else Ideal.fptosi 32 (∑ k : Fin 253, if thr k ≤ t then (1 : EReal) else 0) - 1#32

theorem pat : ∀ k : Fin 255, (BitVec.ofNat 32 k.val <<< 23).extractLsb' 31 1 = 0#1 ∧ ((BitVec.ofNat 32 k.val <<< 23).extractLsb' 23 8).toNat = k.val
    ∧ ((BitVec.ofNat 32 k.val <<< 23).extractLsb' 0 23).toNat = 0 := by decide +kernel

theorem thr_zero : thr 0 = 0 := by
  show Ideal.ieee 8 23 (BitVec.ofNat 32 0 <<< 23) = 0
  obtain ⟨h1, h2, h3⟩ := pat 0
  unfold Ideal.ieee
  simp

/-- What a normal pattern denotes, from its three fields. -/
theorem of_normal (b : BitVec 32) (neg : Bool) (ex fr : ℕ) (h1 : (b.extractLsb' 31 1 == 1#1) = neg) (h2 : (b.extractLsb' 23 8).toNat = ex)
    (h3 : (b.extractLsb' 0 23).toNat = fr) (h4 : ex ≠ 255) (h5 : ex ≠ 0) :
    Ideal.ofBits .f32 b = (((if neg then -1 else 1) * (2 ^ 23 + fr : ℕ) * (2 : ℝ) ^ ((ex : ℤ) - 127 - 23) : ℝ) : EReal) := by
  show Ideal.ieee 8 23 b = _
  unfold Ideal.ieee
  simp only [h1, h2, h3, Nat.reduceAdd]
  rw [if_neg (by norm_num; exact h4), if_neg h5]
  norm_num

/-- A threshold is a power of two. -/
theorem thr_pos (k : ℕ) (h0 : 0 < k) (hk : k < 255) : thr k = (((2 : ℝ) ^ ((k : ℤ) - 127) : ℝ) : EReal) := by
  obtain ⟨h1, h2, h3⟩ := pat ⟨k, hk⟩
  refine (of_normal _ false k 0 (by rw [h1]; rfl) h2 h3 (by omega) (by omega)).trans ?_
  apply congrArg
  have e : ((2 ^ 23 + 0 : ℕ) : ℝ) = 2 ^ (23 : ℤ) := by norm_num
  rw [e, if_neg (by decide), one_mul, ← zpow_add₀ (by norm_num : (2 : ℝ) ≠ 0)]
  exact congrArg (fun z : ℤ => (2 : ℝ) ^ z) (by omega)

theorem kap_eq : ∃ r : ℝ, 0 < r ∧ kap = (r : EReal) := by
  refine ⟨_, ?_, of_normal 0x3B124925#32 false 118 1198373 (by decide +kernel) (by decide +kernel) (by decide +kernel) (by decide) (by decide)⟩
  norm_num

theorem of_two : Ideal.ofBits .f32 0x40000000#32 = ((2 : ℝ) : EReal) := by
  rw [of_normal 0x40000000#32 false 128 0 (by decide +kernel) (by decide +kernel) (by decide +kernel) (by decide) (by decide)]
  norm_num

theorem of_hi : Ideal.ofBits .f32 0x42FC0000#32 = ((126 : ℝ) : EReal) := by
  rw [of_normal 0x42FC0000#32 false 133 8126464 (by decide +kernel) (by decide +kernel) (by decide +kernel) (by decide) (by decide)]
  norm_num

theorem of_lo : Ideal.ofBits .f32 0xC2FC0000#32 = ((-126 : ℝ) : EReal) := by
  rw [of_normal 0xC2FC0000#32 true 133 8126464 (by decide +kernel) (by decide +kernel) (by decide +kernel) (by decide) (by decide)]
  norm_num

/-- Counting the thresholds up to `n` gives `n`. -/
theorem field_of (t : EReal) (h0 : t ≠ 0) (n : ℕ) (hn : n ≤ 252) (h : ∀ k : ℕ, k < 253 → (thr k ≤ t ↔ k ≤ n)) : field t = BitVec.ofNat 32 n := by
  unfold field
  rw [if_neg h0]
  have hs : (∑ k : Fin 253, if thr k ≤ t then (1 : EReal) else 0) = (((n + 1 : ℕ) : ℝ) : EReal) := by
    rw [Finset.sum_congr rfl (fun k _ => if_congr (h k.val k.isLt) rfl rfl), Fin.sum_univ_eq_sum_range (fun k => if k ≤ n then (1 : EReal) else 0) 253,
      ← Finset.sum_filter]
    have : (Finset.range 253).filter (fun k => k ≤ n) = Finset.range (n + 1) := by
      ext k; simp only [Finset.mem_filter, Finset.mem_range]; omega
    rw [this, Finset.sum_const, Finset.card_range]
    simp
  rw [hs]
  unfold Ideal.fptosi
  rw [Ideal.toIntClamped_coe, if_pos (by positivity)]
  have : ⌊((n + 1 : ℕ) : ℝ)⌋ = ((n + 1 : ℕ) : ℤ) := Int.floor_natCast _
  rw [this]
  have e : max (-((2 ^ (32 - 1) : ℕ) : ℤ)) (min (((2 ^ (32 - 1) : ℕ) : ℤ) - 1) ((n + 1 : ℕ) : ℤ)) = ((n + 1 : ℕ) : ℤ) := by
    norm_num; omega
  rw [e, BitVec.ofInt_natCast]
  apply BitVec.eq_of_toNat_eq
  rw [BitVec.toNat_sub]
  simp
  omega

/-- The exponent is a whole number, and the field is that number plus 126. -/
theorem field_expo (a : EReal) (ha : 0 ≤ a) : ∃ n : ℕ, n ≤ 252 ∧ field (a * kap) = BitVec.ofNat 32 n ∧ expo a = (((n : ℝ) - 126 : ℝ) : EReal) := by
  obtain ⟨κ, hκ, hkap⟩ := kap_eq
  by_cases h : a = 0
  · refine ⟨126, by norm_num, ?_, ?_⟩
    · unfold field; rw [h, zero_mul, if_pos rfl]
    · unfold expo; rw [if_pos h]; norm_num
  have hκ' : (0 : EReal) < kap := by rw [hkap]; exact_mod_cast hκ
  have hapos : 0 < a := lt_of_le_of_ne ha (Ne.symm h)
  have hlog2 : Ideal.log (Ideal.ofBits .f32 0x40000000#32) = ((Real.log 2 : ℝ) : EReal) := by
    rw [of_two, Ideal.log_coe, if_neg (by norm_num)]
  have hl2 : (0 : ℝ) < Real.log 2 := Real.log_pos (by norm_num)
  unfold expo
  rw [if_neg h, of_hi, of_lo]
  induction a with
  | bot => exact absurd ha (by simp)
  | top =>
    have ht : (⊤ : EReal) * kap = ⊤ := EReal.top_mul_of_pos hκ'
    refine ⟨252, le_refl _, field_of _ (by rw [ht]; simp) _ (le_refl _) ?_, ?_⟩
    · intro k hk; rw [ht]; simp; omega
    · rw [ht, hlog2, Ideal.log_top, Ideal.div_coe hl2.ne', EReal.top_mul_of_pos (by exact_mod_cast (by positivity : (0 : ℝ) < 1 / Real.log 2)), Ideal.liftRound_top]
      rw [EReal.top_add_of_ne_bot (show (1 : EReal) ≠ ⊥ from EReal.coe_ne_bot 1), max_eq_right le_top, min_eq_left le_top]
      norm_num
  | coe r =>
    have hr : 0 < r := by exact_mod_cast hapos
    have ht : (r : EReal) * kap = ((r * κ : ℝ) : EReal) := by rw [hkap, EReal.coe_mul]
    set u : ℝ := r * κ with hu
    have hupos : 0 < u := by positivity
    have hL : Ideal.liftRound Int.floor (Ideal.div (Ideal.log ((r : EReal) * kap)) (Ideal.log (Ideal.ofBits .f32 0x40000000#32))) = ((⌊Real.log u / Real.log 2⌋ : ℝ) : EReal) := by
      rw [ht, hlog2, Ideal.log_coe, if_neg (by linarith), Ideal.div_coe hl2.ne', ← EReal.coe_mul, Ideal.liftRound_coe, mul_one_div]
    rw [hL]
    set L : ℤ := ⌊Real.log u / Real.log 2⌋ with hLd
    have hthr : ∀ k : ℕ, 0 < k → k < 255 → (thr k ≤ (u : EReal) ↔ (k : ℤ) - 127 ≤ L) := by
      intro k hk0 hk
      rw [thr_pos k hk0 hk, EReal.coe_le_coe_iff, Int.le_floor, le_div_iff₀ hl2]
      rw [← Real.log_le_log_iff (by positivity) hupos, Real.log_zpow]
    refine ⟨(max 0 (min 252 (L + 127))).toNat, by omega, field_of _ (by rw [ht]; exact_mod_cast hupos.ne') _ (by omega) ?_, ?_⟩
    · intro k hk
      rw [ht]
      rcases Nat.eq_zero_or_pos k with rfl | hk0
      · rw [thr_zero]; simp; exact_mod_cast hupos.le
      · rw [hthr k hk0 (by omega)]; omega
    · have e1 : (((max 0 (min 252 (L + 127))).toNat : ℕ) : ℝ) - 126 = ((min 126 (max (-126) (L + 1)) : ℤ) : ℝ) := by
        have : (((max 0 (min 252 (L + 127))).toNat : ℕ) : ℤ) - 126 = min 126 (max (-126) (L + 1)) := by omega
        rw [← this]; push_cast; rfl
      rw [e1]
      push_cast
      have hm : Monotone (fun x : ℝ => (x : EReal)) := fun a b h => EReal.coe_le_coe_iff.mpr h
      rw [show ((min 126 (max (-126) ((L : ℝ) + 1)) : ℝ) : EReal) = min ((126 : ℝ) : EReal) (max ((-126 : ℝ) : EReal) (((L : ℝ) + 1 : ℝ) : EReal)) from
        (hm.map_min).trans (congrArg _ hm.map_max)]
      rfl

/-- The scale built from the field is two to the exponent. -/
theorem scale_eq (a : EReal) (ha : 0 ≤ a) : Ideal.ofBits .f32 ((field (a * kap) + 1#32) <<< 23) = Ideal.exp2 (expo a) := by
  obtain ⟨n, hn, hf, he⟩ := field_expo a ha
  rw [hf, he, show BitVec.ofNat 32 n + 1#32 = BitVec.ofNat 32 (n + 1) from (BitVec.ofNat_add n 1).symm]
  rw [show Ideal.ofBits .f32 (BitVec.ofNat 32 (n + 1) <<< 23) = _ from thr_pos (n + 1) (by omega) (by omega), Ideal.exp2_coe]
  congr 1
  rw [← Real.rpow_intCast, Real.rpow_eq_pow]
  congr 1
  push_cast; ring

/-- And so is its reciprocal. -/
theorem inv_eq (a : EReal) (ha : 0 ≤ a) : Ideal.ofBits .f32 ((253#32 - field (a * kap)) <<< 23) = Ideal.exp2 (0 - expo a) := by
  obtain ⟨n, hn, hf, he⟩ := field_expo a ha
  have e : 253#32 - BitVec.ofNat 32 n = BitVec.ofNat 32 (253 - n) := by
    apply BitVec.eq_of_toNat_eq
    rw [BitVec.toNat_sub]
    simp
    omega
  rw [hf, he, e]
  rw [show Ideal.ofBits .f32 (BitVec.ofNat 32 (253 - n) <<< 23) = _ from thr_pos (253 - n) (by omega) (by omega), zero_sub, ← EReal.coe_neg, Ideal.exp2_coe]
  congr 1
  rw [← Real.rpow_intCast, Real.rpow_eq_pow]
  congr 1
  rw [Nat.cast_sub (by omega)]
  push_cast; ring

end Cert.Quant

end
-- ==== Proof.Math.lean ====
/-
  What both programs compute for one token, over the extended reals, and the algebra that joins their forms.
-/
module

public import proofs.«01_k».proof.Proof.Expo

@[expose] public section

noncomputable section

namespace Cert.Quant

open Idealize.ShloMosaic

/-- The largest magnitude of a group. -/
def amax {n : ℕ} (f : Fin n → EReal) : EReal := Finset.fold max (Ideal.ofBits .f32 0xFF800000#32) (fun k => max (f k) (-f k)) Finset.univ
/-- The code of `v` under a scale of exponent `e`. -/
def code (v e : EReal) : EReal := min (Ideal.ofBits .f32 0x43E00000#32) (max (Ideal.ofBits .f32 0xC3E00000#32) (v * Ideal.exp2 (0 - e)))
/-- One over the root mean square of a group whose mean square is `s / n`. -/
def rms (s n : EReal) : EReal := Ideal.rsqrt (Ideal.div s n + Ideal.ofBits .f32 0x358637BD#32)
abbrev nModel : EReal := Ideal.ofBits .f32 0x45A00000#32
abbrev nHead : EReal := Ideal.ofBits .f32 0x43200000#32

/-- A token's normalised row. -/
def hx (x nw : Fin 5120 → EReal) (j : Fin 5120) : EReal := x j * rms (∑ k, x k * x k) nModel * nw j
/-- Its exponent, scale and codes. -/
def he (x nw : Fin 5120 → EReal) : EReal := expo (amax (hx x nw))
def hs (x nw : Fin 5120 → EReal) : EReal := Ideal.exp2 (he x nw)
def hq (x nw : Fin 5120 → EReal) (j : Fin 5120) : EReal := code (hx x nw j) (he x nw)
/-- Its product with the weights, scaled. -/
def yv (x nw : Fin 5120 → EReal) (w : Fin 5120 → Fin 10240 → EReal) (ws : Fin 10240 → EReal) (n : Fin 10240) : EReal :=
  (∑ k, hq x nw k * w k n) * hs x nw * ws n
/-- Head `h` of the product. -/
def yh (x nw : Fin 5120 → EReal) (w : Fin 5120 → Fin 10240 → EReal) (ws : Fin 10240 → EReal) (h : Fin 64) (d : Fin 160) : EReal :=
  yv x nw w ws ⟨h.val * 160 + d.val, by omega⟩
/-- A head over its root mean square, times the weights. -/
def nrm (t w : Fin 160 → EReal) (d : Fin 160) : EReal := t d * rms (∑ k, t k * t k) nHead * w d
/-- The angle of pair `d` at position `p`. -/
def ang (p : BitVec 32) (d : Fin 80) : EReal :=
  FloatOps.sitofp (F := Ideal) .f32 p * Ideal.pow (Ideal.ofBits .f32 0x49742400#32)
    (Ideal.div (0 - Ideal.ofBits .f32 0x40000000#32 * FloatOps.sitofp (F := Ideal) .f32 (BitVec.ofNat 32 d.val)) nHead)
/-- A head turned by the angles of position `p`. -/
def rot (t : Fin 160 → EReal) (p : BitVec 32) (d : Fin 160) : EReal :=
  if h : d.val < 80 then t d * Ideal.cos (ang p ⟨d.val, h⟩) - t ⟨80 + d.val, by omega⟩ * Ideal.sin (ang p ⟨d.val, h⟩)
  else t d * Ideal.cos (ang p ⟨d.val - 80, by omega⟩) + t ⟨d.val - 80, by omega⟩ * Ideal.sin (ang p ⟨d.val - 80, by omega⟩)

theorem of_bot : Ideal.ofBits .f32 0xFF800000#32 = ⊥ := by
  show Ideal.ieee 8 23 0xFF800000#32 = _
  have h1 : ((0xFF800000#32).extractLsb' 31 1 == 1#1) = true := by decide +kernel
  have h2 : ((0xFF800000#32).extractLsb' 23 8).toNat = 255 := by decide +kernel
  have h3 : ((0xFF800000#32).extractLsb' 0 23).toNat = 0 := by decide +kernel
  unfold Ideal.ieee
  simp only [h1, h2, h3, Nat.reduceAdd]
  norm_num

/-- What bounds the largest magnitude. -/
theorem amax_le {n : ℕ} (f : Fin n → EReal) (b : EReal) : amax f ≤ b ↔ ∀ k, max (f k) (-f k) ≤ b := by
  unfold amax
  rw [Finset.fold_max_le, of_bot]
  simp

theorem abs_nonneg (v : EReal) : 0 ≤ max v (-v) := by
  rcases le_total 0 v with h | h
  · exact le_max_of_le_left h
  · exact le_max_of_le_right (EReal.neg_le_neg_iff.mpr h |>.trans' (by simp))

theorem amax_nonneg {n : ℕ} (f : Fin (n + 1) → EReal) : 0 ≤ amax f :=
  (abs_nonneg (f 0)).trans ((amax_le f _).mp (le_refl _) 0)

/-- Some element attains it. -/
theorem amax_mem {n : ℕ} (f : Fin (n + 1) → EReal) : ∃ k, amax f = max (f k) (-f k) := by
  obtain ⟨k, _, hk⟩ := Finset.exists_max_image Finset.univ (fun k => max (f k) (-f k)) ⟨0, Finset.mem_univ _⟩
  exact ⟨k, le_antisymm ((amax_le f _).mpr fun j => hk j (Finset.mem_univ _)) ((amax_le f _).mp (le_refl _) k)⟩

/-- A factor that is not negative comes out of the largest magnitude. -/
theorem amax_mul {n : ℕ} (f : Fin (n + 1) → EReal) (c : EReal) (hc : 0 ≤ c) : amax (fun k => f k * c) = amax f * c := by
  have hm : ∀ k, max (f k * c) (-(f k * c)) = max (f k) (-f k) * c := by
    intro k
    rw [← EReal.neg_mul]
    have mono : Monotone fun v : EReal => v * c := fun a b h => mul_le_mul_of_nonneg_right h hc
    exact (mono.map_max).symm
  apply le_antisymm
  · refine (amax_le _ _).mpr fun k => ?_
    rw [hm]
    exact mul_le_mul_of_nonneg_right ((amax_le f _).mp (le_refl _) k) hc
  · obtain ⟨k, hk⟩ := amax_mem f
    rw [hk, ← hm]
    exact (amax_le (fun k => f k * c) _).mp (le_refl _) k

theorem sq_nonneg (v : EReal) : 0 ≤ v * v := by
  rcases le_total 0 v with h | h
  · exact mul_nonneg h h
  · have hn : v * v = -v * -v := by rw [EReal.neg_mul, mul_comm v (-v), EReal.neg_mul, neg_neg]
    rw [hn]
    have : 0 ≤ -v := EReal.neg_le_neg_iff.mpr h |>.trans' (by simp)
    exact mul_nonneg this this

theorem rsqrt_nonneg (v : EReal) (h : 0 ≤ v) : 0 ≤ Ideal.rsqrt v := by
  induction v with
  | bot => exact absurd h (by simp)
  | top => simp
  | coe r =>
    have hr : 0 ≤ r := by exact_mod_cast h
    rw [Ideal.rsqrt_coe, if_neg (not_lt.mpr hr)]
    split
    · exact le_top
    · exact_mod_cast inv_nonneg.mpr (Real.sqrt_nonneg r)

theorem nModel_eq : nModel = ((5120 : ℝ) : EReal) := by
  refine (of_normal 0x45A00000#32 false 139 2097152 (by decide +kernel) (by decide +kernel) (by decide +kernel) (by decide) (by decide)).trans ?_
  apply congrArg
  norm_num

theorem eps_nonneg : (0 : EReal) ≤ Ideal.ofBits .f32 0x358637BD#32 := by
  rw [of_normal 0x358637BD#32 false 107 407485 (by decide +kernel) (by decide +kernel) (by decide +kernel) (by decide) (by decide)]
  apply EReal.coe_nonneg.mpr
  norm_num

theorem rms_nonneg (x : Fin 5120 → EReal) : 0 ≤ rms (∑ k, x k * x k) nModel := by
  unfold rms
  refine rsqrt_nonneg _ (add_nonneg ?_ eps_nonneg)
  rw [nModel_eq, Ideal.div_coe (by norm_num)]
  exact mul_nonneg (Finset.sum_nonneg fun k _ => sq_nonneg _) (EReal.coe_nonneg.mpr (by norm_num))

/-- The largest magnitude of the normalised row, from that of the weighted row. -/
theorem amax_hx (x nw : Fin 5120 → EReal) : amax (hx x nw) = amax (fun j => x j * nw j) * rms (∑ k, x k * x k) nModel := by
  rw [← amax_mul (n := 5119) _ _ (rms_nonneg x)]
  congr 1
  funext j
  exact mul_right_comm _ _ _

/-- A row of 5120, as 40 blocks of 128 lanes. -/
theorem sum_blocks (f : Fin 5120 → EReal) : ∑ l : Fin 128, ∑ t : Fin 40, f ⟨128 * t.val + l.val, by omega⟩ = ∑ j, f j := by
  rw [Finset.sum_comm, ← Fintype.sum_prod_type' (f := fun (t : Fin 40) (l : Fin 128) => f ⟨128 * t.val + l.val, by omega⟩)]
  refine Fintype.sum_equiv (finProdFinEquiv (m := 40) (n := 128)) _ f fun p => ?_
  congr 1
  apply Fin.ext
  show 128 * p.1.val + p.2.val = p.2.val + 128 * p.1.val
  omega

end Cert.Quant

end
-- ==== Proof.KRow.lean ====
/-
  The kernel's scales and codes of the tokens, at an index.
-/
module

public import proofs.«01_k».proof.Proof.Reads
public import proofs.«01_k».proof.Proof.Math

@[expose] public section

set_option maxRecDepth 65536

noncomputable section

namespace Cert.Kernel.Hand

open Cert.Kernel Cert.Kernel.Gen Cert.Quant
open Idealize.ShloMosaic Idealize.ShloMosaic.TcCoe Idealize.ShloMosaic.Tactic

variable (c : Dev nD) (x0 : Bf (F := Ideal) c (Memref.whole main_v0)) (x3 : Bf (F := Ideal) c (Memref.whole main_v1)) (s3 : Bf (F := Ideal) c (Memref.whole cc0_scratch3))

/-- Token `m`'s row, and the norm weights. -/
def xr (m : Fin 256) (j : Fin 5120) : EReal := x0 (ix2 (n0 := 256) (n1 := 5120) m j)
def nr (j : Fin 5120) : EReal := x3 (ix2 (n0 := 1) (n1 := 5120) 0 j)

theorem steps_add (P : ℕ → EReal) (z : EReal) (n : ℕ) : steps (fun t a => a + P t) z n = z + ∑ t ∈ Finset.range n, P t := by
  induction n with
  | zero => simp [steps]
  | succ n ih => rw [Finset.sum_range_succ, ← add_assoc, ← ih]; rfl

theorem steps_max_le (P : ℕ → EReal) (z b : EReal) (n : ℕ) : steps (fun t a => max a (P t)) z n ≤ b ↔ z ≤ b ∧ ∀ t < n, P t ≤ b := by
  induction n with
  | zero => simp [steps]
  | succ n ih =>
    show max _ _ ≤ b ↔ _
    rw [max_le_iff, ih]
    constructor
    · rintro ⟨⟨h1, h2⟩, h3⟩
      refine ⟨h1, fun t ht => ?_⟩
      rcases Nat.lt_succ_iff_lt_or_eq.mp ht with h | rfl
      · exact h2 t h
      · exact h3
    · rintro ⟨h1, h2⟩
      exact ⟨⟨h1, fun t ht => h2 t (by omega)⟩, h2 n (by omega)⟩

/-- A loop over arrays, at an index. -/
theorem steps_apply {ι : Type} {β : Type} (g : ℕ → (ι → β) → ι → β) (g' : ℕ → β → β) (i : ι) (h : ∀ t a, g t a i = g' t (a i)) (z : ι → β) (n : ℕ) :
    steps g z n i = steps g' (z i) n := by
  induction n with
  | zero => rfl
  | succ n ih => show g n _ i = g' n _; rw [h, ih]

/-- The token of row `i` of chunk `r`. -/
abbrev tok (r : ℕ) (hr : r < 8) (i : Fin 32) : Fin 256 := ⟨32 * r + i.val, by omega⟩

attribute [local irreducible] xTile nwTile

variable (r : ℕ) (hr : r < 8) (i : Fin 32)

theorem ssAcc_apply (l : Fin 128) : ssAcc c x0 r (ix2 i l)
    = ∑ t : Fin 40, xr c x0 (tok r hr i) ⟨128 * t.val + l.val, by omega⟩ * xr c x0 (tok r hr i) ⟨128 * t.val + l.val, by omega⟩ := by
  unfold ssAcc
  rw [steps_apply _ (fun t a => a + xTile c x0 r t (ix2 i l) * xTile c x0 r t (ix2 i l)) _ (fun t a => by pointwise), steps_add]
  rw [Finset.sum_range]
  rw [show (broadcast S32x128 (Scalar.ofBits (F := Ideal) .f32 0x00000000#32) : FVec Ideal S32x128 .f32) (ix2 i l) = 0 from by pointwise, zero_add]
  refine Finset.sum_congr rfl fun t _ => ?_
  rw [xTile_apply c x0 r t.val hr t.isLt i l]
  rfl

attribute [local irreducible] ssAcc mxAcc

theorem rsRow_apply : rsRow (ssAcc c x0 r) (ix2 i 0) = rms (∑ k, xr c x0 (tok r hr i) k * xr c x0 (tok r hr i) k) nModel := by
  pointwise [rsRow]
  unfold rms
  rw [← sum_blocks (fun k => xr c x0 (tok r hr i) k * xr c x0 (tok r hr i) k)]
  simp only [ssAcc_apply c x0 r hr i]

attribute [local semireducible] mxAcc in
theorem mxAcc_le (l : Fin 128) (b : EReal) : mxAcc c x0 x3 s3 r (ix2 i l) ≤ b ↔ 0 ≤ b ∧ ∀ t : Fin 40,
    max (xr c x0 (tok r hr i) ⟨128 * t.val + l.val, by omega⟩ * nr c x3 ⟨128 * t.val + l.val, by omega⟩)
      (-(xr c x0 (tok r hr i) ⟨128 * t.val + l.val, by omega⟩ * nr c x3 ⟨128 * t.val + l.val, by omega⟩)) ≤ b := by
  unfold mxAcc
  rw [steps_apply _ (fun t a => max a (max (xTile c x0 r t (ix2 i l) * nwTile c x3 s3 t (ix2 0 l)) (-(xTile c x0 r t (ix2 i l) * nwTile c x3 s3 t (ix2 0 l))))) _
    (fun t a => by pointwise; rfl), steps_max_le]
  rw [show (broadcast S32x128 (Scalar.ofBits (F := Ideal) .f32 0x00000000#32) : FVec Ideal S32x128 .f32) (ix2 i l) = 0 from by pointwise]
  refine and_congr_right fun _ => ⟨fun h t => ?_, fun h t ht => ?_⟩
  · have := h t.val t.isLt
    rwa [xTile_apply c x0 r t.val hr t.isLt i l, nwTile_apply c x3 s3 t.val t.isLt l] at this
  · have := h ⟨t, ht⟩
    rwa [xTile_apply c x0 r t hr ht i l, nwTile_apply c x3 s3 t ht l]

/-- The row's largest normalised magnitude over the code range. -/
theorem tChunk_apply : tChunk c x0 x3 s3 r (ix2 i 0) = amax (hx (xr c x0 (tok r hr i)) (nr c x3)) * kap := by
  unfold tChunk
  rw [amax_hx, ← rsRow_apply c x0 r hr i]
  pointwise [tRow]
  refine congrArg (· * kap) (congrArg (· * rsRow (ssAcc c x0 r) (ix2 i 0)) ?_)
  apply eq_of_forall_ge_iff
  intro b
  rw [Finset.fold_max_le, of_bot, amax_le]
  simp only [mxAcc_le c x0 x3 s3 r hr i]
  constructor
  · rintro ⟨_, h⟩ k
    have := (h ⟨k.val % 128, Nat.mod_lt _ (by omega)⟩ (Finset.mem_univ _)).2 ⟨k.val / 128, by omega⟩
    have e : (⟨128 * (k.val / 128) + k.val % 128, by omega⟩ : Fin 5120) = k := Fin.ext (Nat.div_add_mod _ _)
    simpa only [e] using this
  · intro h
    refine ⟨bot_le, fun l _ => ⟨(abs_nonneg _).trans (h 0), fun t => h _⟩⟩

theorem ebRow_apply (t : FVec Ideal S32x1 .f32) : ebRow t (ix2 i 0) = field (t (ix2 i 0)) := by
  pointwise [ebRow]
  rfl

/-- The scale rows hold the row's scale in every lane. -/
theorem scRow_apply (l : Fin 128) : scRow (tChunk c x0 x3 s3 r) (ix2 i l) = hs (xr c x0 (tok r hr i)) (nr c x3) := by
  unfold hs he
  rw [← scale_eq _ (amax_nonneg _), ← tChunk_apply c x0 x3 s3 r hr i, ← ebRow_apply]
  pointwise [scRow]
  rfl

/-- A tile of codes. -/
theorem codeTile_apply (t : ℕ) (ht : t < 40) (l : Fin 128) : codeTile (rsiChunk c x0 x3 s3 r) (xTile c x0 r t) (nwTile c x3 s3 t) (ix2 i l)
    = hq (xr c x0 (tok r hr i)) (nr c x3) ⟨128 * t + l.val, by omega⟩ := by
  have e : rsiChunk c x0 x3 s3 r (ix2 i l) = rms (∑ k, xr c x0 (tok r hr i) k * xr c x0 (tok r hr i) k) nModel * Ideal.exp2 (0 - he (xr c x0 (tok r hr i)) (nr c x3)) := by
    unfold he
    rw [← inv_eq _ (amax_nonneg _), ← tChunk_apply c x0 x3 s3 r hr i, ← ebRow_apply, ← rsRow_apply c x0 r hr i]
    unfold rsiChunk
    pointwise [rsiRow]
    rfl
  pointwise [codeTile]
  rw [e, xTile_apply c x0 r t hr ht i l, nwTile_apply c x3 s3 t ht l]
  unfold hq code hx
  refine congrArg (fun v => min _ (max _ v)) ?_
  rw [← mul_assoc, mul_right_comm]
  rfl

/-- What the code buffer reads. -/
theorem hq_reads (m : Fin 256) (j : Fin 5120) : ∀ n, m.val / 32 < n → n ≤ 8 →
    Reads (Val := Elt Ideal) (s := S256x5120) (e := .fp8e4m3) (ix2 m j) (hq (xr c x0 m) (nr c x3) j) (hqPieces c x0 x3 s3 n)
  | n + 1, hm, hn => by
    have ha : ∀ t, t < 40 → Agrees (Val := Elt Ideal) (s := S256x5120) (e := .fp8e4m3) ⟨rectX n t, codeTile (rsiChunk c x0 x3 s3 n) (xTile c x0 n t) (nwTile c x3 s3 t)⟩
        (ix2 m j) (hq (xr c x0 m) (nr c x3) j) := by
      intro t ht
      refine agrees_unit (inbX n t) _ _ _ fun x hx => ?_
      have h0 : m.val = 32 * (n % 8) + (x 0).val := hx 0
      have h1 : j.val = 128 * (t % 40) + (x 1).val := hx 1
      refine (congrArg _ (eq_ix2 (n0 := 32) (n1 := 128) x)).trans ((codeTile_apply c x0 x3 s3 n (by omega) (x 0) t ht (x 1)).trans ?_)
      have e0 : tok n (by omega) (x 0) = m := Fin.ext (show 32 * n + (x 0).val = m.val by omega)
      have e1 : (⟨128 * t + (x 1).val, by have : (x 1).val < 128 := (x 1).isLt; omega⟩ : Fin 5120) = j := Fin.ext (show 128 * t + (x 1).val = j.val by omega)
      exact congr (congrArg (fun m => hq (xr c x0 m) (nr c x3)) e0) e1
    rcases Nat.lt_succ_iff_lt_or_eq.mp hm with h | h
    · exact Reads.under _ _ (hq_reads m j n h (by omega)) 40 ha
    · refine Reads.stack _ _ (j.val / 128) ?_ 40 (by omega) fun t _ ht => ha t ht
      refine mem_unit (inbX n (j.val / 128)) _ fun a => ?_
      match a with
      | ⟨0, _⟩ => show 32 * (n % 8) ≤ m.val ∧ m.val < 32 * (n % 8) + 32; omega
      | ⟨1, _⟩ => show 128 * (j.val / 128 % 40) ≤ j.val ∧ j.val < 128 * (j.val / 128 % 40) + 128; omega

/-- What the scale rows read. -/
theorem hs_reads (m : Fin 256) (l : Fin 128) :
    Reads (Val := Elt Ideal) (s := S256x128) (e := .f32) (ix2 m l) (hs (xr c x0 m) (nr c x3)) (hsPieces c x0 x3 s3 8) := by
  refine Reads.stack _ _ (m.val / 32) ?_ 8 (by omega) fun n _ hn => ?_
  · refine mem_unit (inbS (m.val / 32)) _ fun a => ?_
    match a with
    | ⟨0, _⟩ => show 32 * (m.val / 32 % 8) ≤ m.val ∧ m.val < 32 * (m.val / 32 % 8) + 32; omega
    | ⟨1, _⟩ => show 0 ≤ l.val ∧ l.val < 0 + 128; omega
  · refine agrees_unit (inbS n) _ _ _ fun x hx => ?_
    have h0 : m.val = 32 * (n % 8) + (x 0).val := hx 0
    refine (congrArg _ (eq_ix2 (n0 := 32) (n1 := 128) x)).trans ((scRow_apply c x0 x3 s3 n hn (x 0) (x 1)).trans ?_)
    have e0 : tok n hn (x 0) = m := Fin.ext (show 32 * n + (x 0).val = m.val by omega)
    exact congrArg (fun m => hs (xr c x0 m) (nr c x3)) e0

end Cert.Kernel.Hand

end
-- ==== Proof.KTab.lean ====
/-
  The kernel's tables and products, at an index.
-/
module

public import proofs.«01_k».proof.Proof.Loop3
public import proofs.«01_k».proof.Proof.KRow

@[expose] public section

set_option maxRecDepth 65536

noncomputable section

namespace Cert.Kernel.Hand

open Cert.Kernel Cert.Kernel.Gen Cert.Quant
open Idealize.ShloMosaic Idealize.ShloMosaic.TcCoe Idealize.ShloMosaic.Tactic

section generic
variable {sig : RefSig} {κ : Kind} {sp : Space} {s s' : Shape} {e : EltTy} {Val : EltTy → Type}

/-- What a covered load reads, at the place its index lands on. -/
theorem readCov_at [∀ e, Nonempty (Val e)] (v : View sig κ sp s e) (L : List (View.Piece Val s e)) (B : LoadRect s) (j : B.shape.Idx) (y : s.Idx) (z : Val e)
    (hy : ∀ a, ((B.idx j) a).val = (y a).val) (h : Reads y z L) : v.readCov L B j = z := by
  have : B.idx j = y := funext fun a => Fin.ext (hy a)
  subst this
  exact readCov_of v L B j z h

/-- Two pieces, of which one reaches. -/
theorem Reads.pair {y : s.Idx} {z : Val e} (p q : View.Piece Val s e) (hp : Agrees p y z) (hq : Agrees q y z) (hy : y ∈ p.1.set ∨ y ∈ q.1.set) : Reads y z [p, q] := by
  rcases hy with h | h
  · exact .hit _ _ hp h
  · exact .skip _ _ hp (.hit _ _ hq h)

/-- A whole transfer into a reshaped slice leaves what was under `y`, or puts there what all its places on `y` have. -/
theorem write_reshape (v : View sig κ sp s e) (r : Rect s) (h : s'.numel = r.shape.numel) (f : v.ty.Contents Val) (w : s'.Idx → Val e) (y : s.Idx) (z : Val e)
    (hw : ∀ x : s'.Idx, r.emb (Shape.reshapeEquiv h x) = y → w x = z) (hy : y ∈ r.set ∨ v.read Val f y = z) :
    v.read Val (((v.slice r).reshape s' h).write Val f w Finset.univ) y = z := by
  by_cases hm : y ∈ r.set
  · obtain ⟨x, rfl⟩ := r.exists_idx_of_mem hm
    obtain ⟨x', rfl⟩ := (Shape.reshapeEquiv h).surjective x
    have := congrFun (View.read_write_univ (v := (v.slice r).reshape s' h) (Val := Val) f w) x'
    exact this.trans (hw x' rfl)
  · rw [← hy.resolve_left hm]
    rw [View.read_apply, View.read_apply, View.write_of_not_mem]
    intro hc
    exact hm (by
      obtain ⟨x', -, hx'⟩ := Finset.mem_map.mp hc
      have e1 : r.emb (Shape.reshapeEquiv h x') = y := v.emb.injective hx'
      rw [← e1]
      exact r.idx_mem _)
end generic

variable (c : Dev nD) (x0 : Bf (F := Ideal) c (Memref.whole main_v0)) (x1 : Bf (F := Ideal) c (Memref.whole main_arg3)) (x2 : Bf (F := Ideal) c (Memref.whole main_arg1))
  (x3 : Bf (F := Ideal) c (Memref.whole main_v1)) (x4 : Bf (F := Ideal) c (Memref.whole main_v2)) (x5 : Bf (F := Ideal) c (Memref.whole main_v3)) (x6 : Bf (F := Ideal) c (Memref.whole main_v4))
  (s1 : Bf (F := Ideal) c (Memref.whole cc0_scratch1)) (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5)) (s6 : Bf (F := Ideal) c (Memref.whole cc0_scratch6))

/-- Token `i` of batch `b`. -/
abbrev bt (b : Fin 2) (i : Fin 128) : Fin 256 := ⟨128 * b.val + i.val, by omega⟩
/-- The weights, their scales, the norm weights of the heads and the positions. -/
def wm (k : Fin 5120) (n : Fin 10240) : EReal := x1 (ix2 (n0 := 5120) (n1 := 10240) k n)
def wsr (n : Fin 10240) : EReal := x4 (ix2 (n0 := 1) (n1 := 10240) 0 n)
def qn (d : Fin 160) : EReal := x5 (ix2 (n0 := 1) (n1 := 160) 0 d)
def kn (d : Fin 160) : EReal := x6 (ix2 (n0 := 1) (n1 := 160) 0 d)
def ps (b : Fin 2) (i : Fin 128) : BitVec 32 := x2 (ix2 (n0 := 2) (n1 := 128) b i)

/-- The codes, read whole. -/
theorem hqLoad (m : Fin 256) (j : Fin 5120) : kernelRun.sl.v7865 c x0 x3 s3 (ix2 m j) = hq (xr c x0 m) (nr c x3) j := by
  unfold kernelRun.sl.v7865
  rw [hq_eq]
  refine readCov_at _ _ _ _ (ix2 m j) _ (fun a => ?_) (hq_reads c x0 x3 s3 m j 8 (by omega) (le_refl _))
  match a with
  | ⟨0, _⟩ => show 0 + 1 * m.val = m.val; omega
  | ⟨1, _⟩ => show 0 + 1 * j.val = j.val; omega

/-- The scale rows of the two batches. -/
theorem hsLoad0 (i l : Fin 128) : kernelRun.sl.v7894 c x0 x3 s3 (ix2 i l) = hs (xr c x0 (bt 0 i)) (nr c x3) := by
  unfold kernelRun.sl.v7894
  rw [hs_eq]
  refine readCov_at _ _ _ _ (ix2 (bt 0 i) l) _ (fun a => ?_) (hs_reads c x0 x3 s3 (bt 0 i) l)
  match a with
  | ⟨0, _⟩ => show 0 + 1 * i.val = 128 * 0 + i.val; omega
  | ⟨1, _⟩ => show 0 + 1 * l.val = l.val; omega
theorem hsLoad1 (i l : Fin 128) : kernelRun.sl.v7916 c x0 x3 s3 (ix2 i l) = hs (xr c x0 (bt 1 i)) (nr c x3) := by
  unfold kernelRun.sl.v7916
  rw [hs_eq]
  refine readCov_at _ _ _ _ (ix2 (bt 1 i) l) _ (fun a => ?_) (hs_reads c x0 x3 s3 (bt 1 i) l)
  match a with
  | ⟨0, _⟩ => show 128 + 1 * i.val = 128 * 1 + i.val; omega
  | ⟨1, _⟩ => show 0 + 1 * l.val = l.val; omega

section tab
attribute [local irreducible] kernelRun.sl.v7894 kernelRun.sl.v7916
theorem row9_0 (i : Fin 128) : k0_pay972 (kernelRun.sl.v7894 c x0 x3 s3) (ix2 0 i) = hs (xr c x0 (bt 0 i)) (nr c x3) := by
  rw [← hsLoad0 c x0 x3 s3 i 0]
  generalize kernelRun.sl.v7894 c x0 x3 s3 = v
  pointwise [k0_pay972, k0_pay971]
theorem row9_1 (i : Fin 128) : kernelRun.sl.v7921 c x0 x3 s3 (ix2 0 i) = hs (xr c x0 (bt 1 i)) (nr c x3) := by
  rw [← hsLoad1 c x0 x3 s3 i 0]
  unfold kernelRun.sl.v7921 kernelRun.sl.v7918 kernelRun.sl.v7917
  generalize kernelRun.sl.v7916 c x0 x3 s3 = v
  pointwise
theorem row10_0 (j : Fin 8) (i : Fin 128) : k0_pay973 (kernelRun.sl.v7894 c x0 x3 s3) (ix3 0 j i) = hs (xr c x0 (bt 0 i)) (nr c x3) := by
  rw [← hsLoad0 c x0 x3 s3 i ⟨j.val, by omega⟩]
  generalize kernelRun.sl.v7894 c x0 x3 s3 = v
  pointwise [k0_pay973, k0_pay971]
theorem row10_1 (j : Fin 8) (i : Fin 128) : kernelRun.sl.v7925 c x0 x3 s3 (ix3 0 j i) = hs (xr c x0 (bt 1 i)) (nr c x3) := by
  rw [← hsLoad1 c x0 x3 s3 i ⟨j.val, by omega⟩]
  unfold kernelRun.sl.v7925 kernelRun.sl.v7922 kernelRun.sl.v7917
  generalize kernelRun.sl.v7916 c x0 x3 s3 = v
  pointwise
end tab

/-- The token scales sent out. -/
theorem hs9_reads (b : Fin 2) (i : Fin 128) : Reads (Val := Elt Ideal) (s := S2x128) (e := .f32) (ix2 b i) (hs (xr c x0 (bt b i)) (nr c x3)) (kernelRun.sl.Hs9_2 c x0 x3 s3) := by
  unfold kernelRun.sl.Hs9_2 kernelRun.sl.Hs9_1
  refine Reads.pair _ _ (agrees_unit _ _ _ _ fun x hx => ?_) (agrees_unit _ _ _ _ fun x hx => ?_) ?_
  · have h0 : b.val = 1 + (x 0).val := hx 0
    have h1 : i.val = 0 + (x 1).val := hx 1
    have hx0 : (x 0).val < 1 := (x 0).isLt
    have eb : b = 1 := Fin.ext (show b.val = 1 by omega)
    have ei : (x 1 : Fin 128) = i := Fin.ext (by omega)
    subst eb
    refine (congrArg _ (show x = ix2 (n0 := 1) (n1 := 128) 0 i from funext fun a => Fin.ext ?_)).trans (row9_1 c x0 x3 s3 i)
    match a with
    | ⟨0, _⟩ => show (x 0).val = 0; omega
    | ⟨1, _⟩ => show (x 1).val = i.val; omega
  · have h0 : b.val = 0 + (x 0).val := hx 0
    have h1 : i.val = 0 + (x 1).val := hx 1
    have hx0 : (x 0).val < 1 := (x 0).isLt
    have eb : b = 0 := Fin.ext (show b.val = 0 by omega)
    have ei : (x 1 : Fin 128) = i := Fin.ext (by omega)
    subst eb
    refine (congrArg _ (show x = ix2 (n0 := 1) (n1 := 128) 0 i from funext fun a => Fin.ext ?_)).trans (row9_0 c x0 x3 s3 i)
    match a with
    | ⟨0, _⟩ => show (x 0).val = 0; omega
    | ⟨1, _⟩ => show (x 1).val = i.val; omega
  · have : b.val = 1 ∨ b.val = 0 := by omega
    refine this.imp (fun h => mem_unit (by decide) _ fun a => ?_) (fun h => mem_unit inb_S2x128_S1x128_0_0 _ fun a => ?_)
    · match a with
      | ⟨0, _⟩ => show 1 ≤ b.val ∧ b.val < 1 + 1; omega
      | ⟨1, _⟩ => show 0 ≤ i.val ∧ i.val < 0 + 128; omega
    · match a with
      | ⟨0, _⟩ => show 0 ≤ b.val ∧ b.val < 0 + 1; omega
      | ⟨1, _⟩ => show 0 ≤ i.val ∧ i.val < 0 + 128; omega

/-- Two slots of a table, the second on top. -/
theorem slots {n : ℕ} (w1 w0 : (⟨3, ![1, n, 128]⟩ : Shape).Idx → Elt Ideal .f32) (inb1 : ∀ a, (![1, 0, 0] : Fin 3 → ℕ) a + (![1, n, 128] : Fin 3 → ℕ) a ≤ (![2, n, 128] : Fin 3 → ℕ) a)
    (inb0 : ∀ a, (![0, 0, 0] : Fin 3 → ℕ) a + (![1, n, 128] : Fin 3 → ℕ) a ≤ (![2, n, 128] : Fin 3 → ℕ) a) (z : Fin 2 → Elt Ideal .f32) (b : Fin 2) (j : Fin n) (i : Fin 128)
    (h1 : w1 (ix3 0 j i) = z 1) (h0 : w0 (ix3 0 j i) = z 0) :
    Reads (Val := Elt Ideal) (s := ⟨3, ![2, n, 128]⟩) (e := .f32) (ix3 b j i) (z b)
      [⟨Rect.unit ![1, 0, 0] ![1, n, 128] inb1, w1⟩, ⟨Rect.unit ![0, 0, 0] ![1, n, 128] inb0, w0⟩] := by
  refine Reads.pair _ _ (agrees_unit _ _ _ _ fun x hx => ?_) (agrees_unit _ _ _ _ fun x hx => ?_) ?_
  · have g0 : b.val = 1 + (x 0).val := hx 0
    have g1 : j.val = 0 + (x 1).val := hx 1
    have g2 : i.val = 0 + (x 2).val := hx 2
    have eb : b = 1 := Fin.ext (show b.val = 1 by omega)
    subst eb
    rw [← h1]
    refine congrArg w1 (funext fun a => Fin.ext ?_)
    match a with
    | ⟨0, _⟩ => show (x 0).val = 0; have : (x 0).val < 1 := (x 0).isLt; omega
    | ⟨1, _⟩ => show (x 1).val = j.val; omega
    | ⟨2, _⟩ => show (x 2).val = i.val; omega
  · have g0 : b.val = 0 + (x 0).val := hx 0
    have g1 : j.val = 0 + (x 1).val := hx 1
    have g2 : i.val = 0 + (x 2).val := hx 2
    have hx0 : (x 0).val < 1 := (x 0).isLt
    have eb : b = 0 := Fin.ext (show b.val = 0 by omega)
    subst eb
    rw [← h0]
    refine congrArg w0 (funext fun a => Fin.ext ?_)
    match a with
    | ⟨0, _⟩ => show (x 0).val = 0; omega
    | ⟨1, _⟩ => show (x 1).val = j.val; omega
    | ⟨2, _⟩ => show (x 2).val = i.val; omega
  · have : b.val = 1 ∨ b.val = 0 := by omega
    refine this.imp (fun h => mem_unit inb1 _ fun a => ?_) (fun h => mem_unit inb0 _ fun a => ?_)
    · match a with
      | ⟨0, _⟩ => show 1 ≤ b.val ∧ b.val < 1 + 1; omega
      | ⟨1, _⟩ => show 0 ≤ j.val ∧ j.val < 0 + n; omega
      | ⟨2, _⟩ => show 0 ≤ i.val ∧ i.val < 0 + 128; omega
    · match a with
      | ⟨0, _⟩ => show 0 ≤ b.val ∧ b.val < 0 + 1; omega
      | ⟨1, _⟩ => show 0 ≤ j.val ∧ j.val < 0 + n; omega
      | ⟨2, _⟩ => show 0 ≤ i.val ∧ i.val < 0 + 128; omega

/-- The token scales the heads are multiplied by. -/
theorem hs10_at (b : Fin 2) (i : Fin 128) : (Memref.whole cc0_scratch10).view.readCov (kernelRun.sl.Hs10_2 c x0 x3 s3) (rectB b.val).toLoadRect (ix3 0 0 i)
    = hs (xr c x0 (bt b i)) (nr c x3) := by
  unfold kernelRun.sl.Hs10_2 kernelRun.sl.Hs10_1
  refine readCov_at _ _ _ _ (ix3 b (0 : Fin 8) i) _ (fun a => ?_)
    (slots (n := 8) _ _ _ _ (fun b => hs (xr c x0 (bt b i)) (nr c x3)) b 0 i (row10_1 c x0 x3 s3 0 i) (row10_0 c x0 x3 s3 0 i))
  match a with
  | ⟨0, _⟩ => show b.val % 2 + 1 * 0 = b.val; omega
  | ⟨1, _⟩ => show 0 + 1 * 0 = 0; omega
  | ⟨2, _⟩ => show 0 + 1 * i.val = i.val; omega

/-- The positions, read from the copy. -/
theorem pos0 (i : Fin 128) : kernelRun.sl.v7882 c x2 s2 (ix2 0 i) = ps c x2 0 i := by
  unfold kernelRun.sl.v7882 kernelRun.sl.dma0_1
  rw [View.readAt_apply, View.read_write_univ]
  show x2 _ = x2 _
  congr 1
  funext a
  apply Fin.ext
  match a with
  | ⟨0, _⟩ => show 0 + 1 * 0 = 0; omega
  | ⟨1, _⟩ => show 0 + 1 * i.val = i.val; omega
theorem pos1 (i : Fin 128) : kernelRun.sl.v7904 c x2 s2 (ix2 0 i) = ps c x2 1 i := by
  unfold kernelRun.sl.v7904 kernelRun.sl.dma0_1
  rw [View.readAt_apply, View.read_write_univ]
  show x2 _ = x2 _
  congr 1
  funext a
  apply Fin.ext
  match a with
  | ⟨0, _⟩ => show 1 + 1 * 0 = 1; omega
  | ⟨1, _⟩ => show 0 + 1 * i.val = i.val; omega

section angles
variable (p : Vec Ideal S1x128 .i32) (d : Fin 80) (i : Fin 128)
theorem ang0 : k0_pay968 (k0_pay966 (F := Ideal)) (k0_pay967 p) (ix2 d i) = ang (p (ix2 0 i)) d := by
  unfold ang
  pointwise [k0_pay968, k0_pay966, k0_pay967]
theorem ang1 : k0_pay974 (k0_pay966 (F := Ideal)) p (ix2 d i) = ang (p (ix2 0 i)) d := by
  unfold ang
  pointwise [k0_pay974, k0_pay966]
attribute [local irreducible] k0_pay968 k0_pay974 k0_pay966 k0_pay967
theorem cos0 : k0_pay969 (k0_pay966 (F := Ideal)) (k0_pay967 p) (ix3 0 d i) = Ideal.cos (ang (p (ix2 0 i)) d) := by
  rw [← ang0]
  pointwise [k0_pay969]
theorem sin0 : k0_pay970 (k0_pay966 (F := Ideal)) (k0_pay967 p) (ix3 0 d i) = Ideal.sin (ang (p (ix2 0 i)) d) := by
  rw [← ang0]
  pointwise [k0_pay970]
theorem cos1 : k0_pay975 (k0_pay966 (F := Ideal)) p (ix3 0 d i) = Ideal.cos (ang (p (ix2 0 i)) d) := by
  rw [← ang1]
  pointwise [k0_pay975]
theorem sin1 : k0_pay976 (k0_pay966 (F := Ideal)) p (ix3 0 d i) = Ideal.sin (ang (p (ix2 0 i)) d) := by
  rw [← ang1]
  pointwise [k0_pay976]
end angles

/-- The tables of angles. -/
theorem sq80 (v : Vec Ideal S1x80x128 .f32) (d : Fin 80) (i : Fin 128) : shapeCast S80x128 v shapeCasts_S1x80x128_S80x128 (ix2 d i) = v (ix3 0 d i) := by
  pointwise
theorem cosR (b : Fin 2) (d : Fin 80) (i : Fin 128) : Reads (Val := Elt Ideal) (s := S2x80x128) (e := .f32) (ix3 b d i) (Ideal.cos (ang (ps c x2 b i) d)) (kernelRun.sl.Hs11_2 c x2 s2) := by
  have e1 := cos1 (kernelRun.sl.v7904 c x2 s2) d i
  have e0 := cos0 (kernelRun.sl.v7882 c x2 s2) d i
  rw [pos1] at e1
  rw [pos0] at e0
  unfold kernelRun.sl.Hs11_2 kernelRun.sl.r_333
  exact slots (n := 80) _ _ inb_S2x80x128_S1x80x128_1_0_0 inb_S2x80x128_S1x80x128_0_0_0 (fun b => Ideal.cos (ang (ps c x2 b i) d)) b d i e1 e0
theorem cosT_at (b : Fin 2) (d : Fin 80) (i : Fin 128) : cosT c x2 s2 b.val (ix2 d i) = Ideal.cos (ang (ps c x2 b i) d) := by
  unfold cosT
  rw [sq80]
  refine readCov_at _ _ _ _ (ix3 b d i) _ (fun a => ?_) (cosR c x2 s2 b d i)
  match a with
  | ⟨0, _⟩ => show b.val % 2 + 1 * 0 = b.val; omega
  | ⟨1, _⟩ => show 0 + 1 * d.val = d.val; omega
  | ⟨2, _⟩ => show 0 + 1 * i.val = i.val; omega
theorem sinR (b : Fin 2) (d : Fin 80) (i : Fin 128) : Reads (Val := Elt Ideal) (s := S2x80x128) (e := .f32) (ix3 b d i) (Ideal.sin (ang (ps c x2 b i) d)) (kernelRun.sl.Hs12_2 c x2 s2) := by
  have e1 := sin1 (kernelRun.sl.v7904 c x2 s2) d i
  have e0 := sin0 (kernelRun.sl.v7882 c x2 s2) d i
  rw [pos1] at e1
  rw [pos0] at e0
  unfold kernelRun.sl.Hs12_2 kernelRun.sl.r_333
  exact slots (n := 80) _ _ inb_S2x80x128_S1x80x128_1_0_0 inb_S2x80x128_S1x80x128_0_0_0 (fun b => Ideal.sin (ang (ps c x2 b i) d)) b d i e1 e0
theorem sinT_at (b : Fin 2) (d : Fin 80) (i : Fin 128) : sinT c x2 s2 b.val (ix2 d i) = Ideal.sin (ang (ps c x2 b i) d) := by
  unfold sinT
  rw [sq80]
  refine readCov_at _ _ _ _ (ix3 b d i) _ (fun a => ?_) (sinR c x2 s2 b d i)
  match a with
  | ⟨0, _⟩ => show b.val % 2 + 1 * 0 = b.val; omega
  | ⟨1, _⟩ => show 0 + 1 * d.val = d.val; omega
  | ⟨2, _⟩ => show 0 + 1 * i.val = i.val; omega

/-- The norm weights of the heads, along the tokens. -/
theorem qn_at (d : Fin 160) (i : Fin 128) : kernelRun.sl.v8045 c x5 s5 (ix2 d i) = qn c x5 d := by
  have h : kernelRun.sl.v7926 c x5 s5 (ix2 0 d) = qn c x5 d := by
    unfold kernelRun.sl.v7926 kernelRun.sl.dma0_3
    rw [View.readAt_apply, View.read_write_univ]
    show x5 _ = x5 _
    congr 1
    funext a
    apply Fin.ext
    match a with
    | ⟨0, _⟩ => show 0 + 1 * 0 = 0; omega
    | ⟨1, _⟩ => show 0 + 1 * d.val = d.val; omega
  unfold kernelRun.sl.v8045 kernelRun.sl.Hs13_1
  refine readCov_at _ _ _ _ (ix2 d i) _ (fun a => ?_) (.hit _ _ (agrees_unit _ _ _ _ fun x hx => ?_) (mem_unit inb_S160x128_S160x128_0_0 _ fun a => ?_))
  · match a with
    | ⟨0, _⟩ => show 0 + 1 * d.val = d.val; omega
    | ⟨1, _⟩ => show 0 + 1 * i.val = i.val; omega
  · have g0 : d.val = 0 + (x 0).val := hx 0
    have e0 : (x 0 : Fin 160) = d := Fin.ext (by omega)
    refine (congrArg _ (eq_ix2 (n0 := 160) (n1 := 128) x)).trans ?_
    rw [e0, ← h]
    unfold kernelRun.sl.v7932 kernelRun.sl.v7929 kernelRun.sl.v7928 kernelRun.sl.v7927
    generalize kernelRun.sl.v7926 c x5 s5 = v
    pointwise
  · match a with
    | ⟨0, _⟩ => show 0 ≤ d.val ∧ d.val < 0 + 160; omega
    | ⟨1, _⟩ => show 0 ≤ i.val ∧ i.val < 0 + 128; omega
theorem kn_at (d : Fin 160) (i : Fin 128) : kernelRun.sl.v13128 c x6 s6 (ix2 d i) = kn c x6 d := by
  have h : kernelRun.sl.v7933 c x6 s6 (ix2 0 d) = kn c x6 d := by
    unfold kernelRun.sl.v7933 kernelRun.sl.dma0_4
    rw [View.readAt_apply, View.read_write_univ]
    show x6 _ = x6 _
    congr 1
    funext a
    apply Fin.ext
    match a with
    | ⟨0, _⟩ => show 0 + 1 * 0 = 0; omega
    | ⟨1, _⟩ => show 0 + 1 * d.val = d.val; omega
  unfold kernelRun.sl.v13128 kernelRun.sl.Hs14_1
  refine readCov_at _ _ _ _ (ix2 d i) _ (fun a => ?_) (.hit _ _ (agrees_unit _ _ _ _ fun x hx => ?_) (mem_unit inb_S160x128_S160x128_0_0 _ fun a => ?_))
  · match a with
    | ⟨0, _⟩ => show 0 + 1 * d.val = d.val; omega
    | ⟨1, _⟩ => show 0 + 1 * i.val = i.val; omega
  · have g0 : d.val = 0 + (x 0).val := hx 0
    have e0 : (x 0 : Fin 160) = d := Fin.ext (by omega)
    refine (congrArg _ (eq_ix2 (n0 := 160) (n1 := 128) x)).trans ?_
    rw [e0, ← h]
    unfold kernelRun.sl.v7939 kernelRun.sl.v7936 kernelRun.sl.v7935 kernelRun.sl.v7934
    generalize kernelRun.sl.v7933 c x6 s6 = v
    pointwise
  · match a with
    | ⟨0, _⟩ => show 0 ≤ d.val ∧ d.val < 0 + 160; omega
    | ⟨1, _⟩ => show 0 ≤ i.val ∧ i.val < 0 + 128; omega

end Cert.Kernel.Hand

end
-- ==== Proof.KHead.lean ====
/-
  The kernel's products and heads, at an index.
-/
module

public import proofs.«01_k».proof.Proof.KTab
public import Idealize.ShloMosaic.Lib.ValueLayout

@[expose] public section

set_option maxRecDepth 65536

noncomputable section

namespace Cert.Kernel.Hand

open Cert.Kernel Cert.Kernel.Gen Cert.Quant
open Idealize.ShloMosaic Idealize.ShloMosaic.TcCoe Idealize.ShloMosaic.Tactic

variable (c : Dev nD) (x0 : Bf (F := Ideal) c (Memref.whole main_v0)) (x1 : Bf (F := Ideal) c (Memref.whole main_arg3))
  (x3 : Bf (F := Ideal) c (Memref.whole main_v1)) (x4 : Bf (F := Ideal) c (Memref.whole main_v2))
  (s1 : Bf (F := Ideal) c (Memref.whole cc0_scratch1)) (s3 : Bf (F := Ideal) c (Memref.whole cc0_scratch3)) (s4 : Bf (F := Ideal) c (Memref.whole cc0_scratch4))

/-- A slot of the ring holds its block until eight copies later. -/
theorem wRing_read (p : ℕ) (hp : p < 20) (k : Fin 5120) (l : Fin 512) : ∀ n, p < n → n ≤ p + 8 → n ≤ 20 →
    View.read (Elt Ideal) (Memref.whole cc0_scratch1).view (wRing c x1 s1 n) (ix3 (n0 := 8) (n1 := 5120) (n2 := 512) ⟨p % 8, Nat.mod_lt _ (by omega)⟩ k l) = wm c x1 k ⟨512 * p + l.val, by omega⟩
  | n + 1, h1, h2, h3 => by
    refine write_reshape (Memref.whole cc0_scratch1).view (rectW n) _ _ _ _ _ (fun x hx => ?_) ?_
    · obtain ⟨u, w, rfl⟩ : ∃ (u : Fin 5120) (w : Fin 512), x = ix2 u w := ⟨x 0, x 1, eq_ix2 (n0 := 5120) (n1 := 512) x⟩
      replace hx := (congrArg (rectW n).emb (ValueIdx.reshapeEquiv_ix2_1ab (a := 5120) (b := 512) _ u w)).symm.trans hx
      have g0 : n % 8 + 1 * 0 = p % 8 := congrArg (fun y : S8x5120x512.Idx => (y 0).val) hx
      have g1 : 0 + 1 * u.val = k.val := congrArg (fun y : S8x5120x512.Idx => (y 1).val) hx
      have g2 : 0 + 1 * w.val = l.val := congrArg (fun y : S8x5120x512.Idx => (y 2).val) hx
      have e : n = p := by omega
      subst e
      show x1 _ = x1 _
      congr 1
      funext a
      apply Fin.ext
      match a with
      | ⟨0, _⟩ => show 0 + 1 * u.val = k.val; omega
      | ⟨1, _⟩ => show 512 * (n % 20) + 1 * w.val = 512 * n + l.val; omega
    · by_cases e : p = n
      · refine .inl (mem_unit (inbW n) _ fun a => ?_)
        match a with
        | ⟨0, _⟩ => show n % 8 ≤ p % 8 ∧ p % 8 < n % 8 + 1; omega
        | ⟨1, _⟩ => show 0 ≤ k.val ∧ k.val < 0 + 5120; omega
        | ⟨2, _⟩ => show 0 ≤ l.val ∧ l.val < 0 + 512; omega
      · exact .inr (wRing_read p hp k l n (by omega) (by omega) (by omega))

theorem wTile_at (p : ℕ) (hp : p < 20) (k : Fin 5120) (l : Fin 512) : wTile c x1 s1 p (ix3 0 k l) = wm c x1 k ⟨512 * p + l.val, by omega⟩ := by
  unfold wTile
  rw [View.readAt_apply]
  rw [← wRing_read c x1 s1 p hp k l (min (p + 8) 20) (by omega) (by omega) (by omega)]
  congr 1
  funext a
  apply Fin.ext
  match a with
  | ⟨0, _⟩ => show p % 8 + 1 * 0 = p % 8; omega
  | ⟨1, _⟩ => show 0 + 1 * k.val = k.val; omega
  | ⟨2, _⟩ => show 0 + 1 * l.val = l.val; omega

theorem prod_at (q : FVec Ideal S256x5120 .fp8e4m3) (w : FVec Ideal S1x5120x512 .fp8e4m3) (m : Fin 256) (l : Fin 512) :
    (shapeCast S1x256x512 (matmul dot_S256x5120_S5120x512_S256x512_1_0_0_1_n_n none q
      (shapeCast S5120x512 w shapeCasts_S1x5120x512_S5120x512) (constant S256x512 .f32 0x00000000#32)) shapeCasts_S256x512_S1x256x512 : FVec Ideal S1x256x512 .f32) (ix3 0 m l)
      = ∑ k, q (ix2 m k) * w (ix3 0 k l) := by
  pointwise

/-- The product of token `m` with column `n`. -/
def acc (m : Fin 256) (n : Fin 10240) : EReal := ∑ k, hq (xr c x0 m) (nr c x3) k * wm c x1 k n

theorem ySq_at (p : ℕ) (hp : p < 20) (m : Fin 256) (l : Fin 512) : ySq c x0 x1 x3 s1 s3 p (ix3 0 m l) = acc c x0 x1 x3 m ⟨512 * p + l.val, by omega⟩ := by
  unfold ySq acc
  rw [prod_at]
  exact Finset.sum_congr rfl fun k _ => by rw [hqLoad c x0 x3 s3, wTile_at c x1 s1 p hp]

theorem yTile_at (p : ℕ) (hp : p < 20) (b : Fin 2) (n : ℕ) (hn : n < 4) (i j : Fin 128) (C : Fin 10240) (hC : C.val = 512 * p + 128 * n + j.val) :
    yTile c x0 x1 x3 s1 s3 p b.val n (ix3 0 i j) = acc c x0 x1 x3 (bt b i) C := by
  unfold yTile yPieces
  refine readCov_at _ _ _ _ (ix3 (n0 := 2) (n1 := 256) (n2 := 512) ⟨p % 2, Nat.mod_lt _ (by omega)⟩ (bt b i) ⟨128 * n + j.val, by omega⟩) _ (fun a => ?_)
    (Reads.stack _ _ p ?_ _ (by omega) fun q h1 h2 => agrees_unit (inbY q) _ _ _ fun x hx => ?_)
  · match a with
    | ⟨0, _⟩ => show p % 2 + 1 * 0 = p % 2; omega
    | ⟨1, _⟩ => show 128 * (b.val % 2) + 1 * i.val = 128 * b.val + i.val; omega
    | ⟨2, _⟩ => show 128 * (n % 4) + 1 * j.val = 128 * n + j.val; omega
  · refine mem_unit (inbY p) _ fun a => ?_
    match a with
    | ⟨0, _⟩ => show p % 2 ≤ p % 2 ∧ p % 2 < p % 2 + 1; omega
    | ⟨1, _⟩ => show 0 ≤ 128 * b.val + i.val ∧ 128 * b.val + i.val < 0 + 256; omega
    | ⟨2, _⟩ => show 0 ≤ 128 * n + j.val ∧ 128 * n + j.val < 0 + 512; omega
  · have g0 : p % 2 = q % 2 + (x 0).val := hx 0
    have g1 : 128 * b.val + i.val = 0 + (x 1).val := hx 1
    have g2 : 128 * n + j.val = 0 + (x 2).val := hx 2
    have hx0 : (x 0).val < 1 := (x 0).isLt
    have e : q = p := by omega
    subst e
    refine (congrArg _ (show x = ix3 (n0 := 1) (n1 := 256) (n2 := 512) 0 (bt b i) ⟨128 * n + j.val, by omega⟩ from funext fun a => Fin.ext ?_)).trans
      ((ySq_at c x0 x1 x3 s1 s3 q hp _ _).trans (congrArg _ (Fin.ext ?_)))
    · match a with
      | ⟨0, _⟩ => show (x 0).val = 0; omega
      | ⟨1, _⟩ => show (x 1).val = 128 * b.val + i.val; omega
      | ⟨2, _⟩ => show (x 2).val = 128 * n + j.val; omega
    · show 512 * q + (128 * n + j.val) = C.val; omega

theorem wsTile_at (p : ℕ) (hp : p < 20) (n : ℕ) (hn : n < 4) (j : Fin 128) (C : Fin 10240) (hC : C.val = 512 * p + 128 * n + j.val) :
    wsTile c x4 s4 p n (ix2 0 j) = wsr c x4 C := by
  unfold wsTile
  rw [View.readAt_apply, View.read_write_univ]
  show x4 _ = x4 _
  congr 1
  funext a
  apply Fin.ext
  match a with
  | ⟨0, _⟩ => show 0 + 1 * 0 = 0; omega
  | ⟨1, _⟩ => show 512 * (p % 20) + 128 * (n % 4) + 1 * j.val = C.val; omega

theorem tSq_at (ws : Vec Ideal S1x128 .f32) (y : Vec Ideal S1x128x128 .f32) (j i : Fin 128) : tSq ws y (ix3 0 j i) = y (ix3 0 i j) * ws (ix2 0 j) := by
  pointwise [tSq]

/-- A square's piece has the scaled products wherever it lies. -/
theorem ytPiece_agrees (p : ℕ) (hp : p < 20) (n : ℕ) (hn : n < 4) (b' : ℕ) (hb' : b' < 2) (b : Fin 2) (r : Fin 2560) (i : Fin 128) (C : Fin 10240)
    (hC : p % 5 = r.val / 512 → C.val = 512 * p + r.val % 512) :
    Agrees (Val := Elt Ideal) (ytPiece c x0 x1 x3 x4 s1 s3 s4 p n b') (ix3 b r i) (acc c x0 x1 x3 (bt b i) C * wsr c x4 C) := by
  refine agrees_unit (inbT b' p n) _ _ _ fun x hx => ?_
  have g0 : b.val = b' % 2 + (x 0).val := hx 0
  have g1 : r.val = 512 * (p % 5) + 128 * (n % 4) + (x 1).val := hx 1
  have g2 : i.val = 0 + (x 2).val := hx 2
  have hx0 : (x 0).val < 1 := (x 0).isLt
  have hx1 : (x 1).val < 128 := (x 1).isLt
  have hC' := hC (by omega)
  have eb : b' = b.val := by omega
  subst eb
  refine (congrArg _ (show x = ix3 (n0 := 1) (n1 := 128) (n2 := 128) 0 ⟨(x 1).val, hx1⟩ i from funext fun a => Fin.ext ?_)).trans ((tSq_at _ _ _ _).trans ?_)
  · match a with
    | ⟨0, _⟩ => show (x 0).val = 0; omega
    | ⟨1, _⟩ => rfl
    | ⟨2, _⟩ => show (x 2).val = i.val; omega
  · rw [yTile_at c x0 x1 x3 s1 s3 p hp b n hn i ⟨(x 1).val, hx1⟩ C (by show C.val = 512 * p + 128 * n + (x 1).val; omega),
      wsTile_at c x4 s4 p hp n hn ⟨(x 1).val, hx1⟩ C (by show C.val = 512 * p + 128 * n + (x 1).val; omega)]

theorem ytPieces_succ (p : ℕ) : ytPieces c x0 x1 x3 x4 s1 s3 s4 (p + 1)
    = stack (fun k => ytPiece c x0 x1 x3 x4 s1 s3 s4 p (k / 2) (k % 2)) (ytPieces c x0 x1 x3 x4 s1 s3 s4 p) 8 := rfl

/-- What the transposed group reads. -/
theorem yt_reads (b : Fin 2) (r : Fin 2560) (i : Fin 128) (g : ℕ) (C : Fin 10240) (hC : C.val = 2560 * g + r.val) : ∀ n, 5 * g + r.val / 512 < n → n ≤ 5 * g + r.val / 512 + 5 → n ≤ 20 →
    Reads (Val := Elt Ideal) (s := S2x2560x128) (e := .f32) (ix3 b r i) (acc c x0 x1 x3 (bt b i) C * wsr c x4 C) (ytPieces c x0 x1 x3 x4 s1 s3 s4 n)
  | n + 1, h1, h2, h3 => by
    rw [ytPieces_succ]
    have ha : ∀ k, k < 8 → Agrees (Val := Elt Ideal) (ytPiece c x0 x1 x3 x4 s1 s3 s4 n (k / 2) (k % 2)) (ix3 b r i) (acc c x0 x1 x3 (bt b i) C * wsr c x4 C) :=
      fun k hk => ytPiece_agrees c x0 x1 x3 x4 s1 s3 s4 n (by omega) (k / 2) (by omega) (k % 2) (by omega) b r i C (by omega)
    by_cases e : n = 5 * g + r.val / 512
    · refine Reads.stack _ _ (2 * (r.val % 512 / 128) + b.val) ?_ 8 (by omega) fun k _ hk => ha k hk
      refine mem_unit (inbT _ _ _) _ fun a => ?_
      match a with
      | ⟨0, _⟩ => show (2 * (r.val % 512 / 128) + b.val) % 2 % 2 ≤ b.val ∧ b.val < (2 * (r.val % 512 / 128) + b.val) % 2 % 2 + 1; omega
      | ⟨1, _⟩ => show 512 * (n % 5) + 128 * ((2 * (r.val % 512 / 128) + b.val) / 2 % 4) ≤ r.val ∧ r.val < 512 * (n % 5) + 128 * ((2 * (r.val % 512 / 128) + b.val) / 2 % 4) + 128; omega
      | ⟨2, _⟩ => show 0 ≤ i.val ∧ i.val < 0 + 128; omega
    · exact Reads.under _ _ (yt_reads b r i g C hC n (by omega) (by omega) (by omega)) 8 ha

theorem headMul_at (t : Vec Ideal S1x160x128 .f32) (s : Vec Ideal S1x1x128 .f32) (d : Fin 160) (i : Fin 128) :
    (mulf (shapeCast S160x128 t shapeCasts_S1x160x128_S160x128) (broadcastTo S160x128 (shapeCast S1x128 s shapeCasts_S1x1x128_S1x128) broadcasts_S1x128_S160x128) : FVec Ideal S160x128 .f32) (ix2 d i)
      = t (ix3 0 d i) * s (ix3 0 0 i) := by
  pointwise

/-- A head of the product. -/
theorem headT_at (b : Fin 2) (h : Fin 64) (d : Fin 160) (i : Fin 128) :
    headT c x0 x1 x3 x4 s1 s3 s4 b.val h.val (ix2 d i) = yh (xr c x0 (bt b i)) (nr c x3) (wm c x1) (wsr c x4) h d := by
  unfold headT
  rw [headMul_at, hs10_at c x0 x3 s3 b i]
  unfold yh yv
  rw [mul_right_comm]
  refine congrArg (· * hs (xr c x0 (bt b i)) (nr c x3)) ?_
  refine readCov_at _ _ _ _ (ix3 (n0 := 2) (n1 := 2560) (n2 := 128) b ⟨160 * (h.val % 16) + d.val, by omega⟩ i) _ (fun a => ?_)
    (yt_reads c x0 x1 x3 x4 s1 s3 s4 b _ i (h.val / 16) ⟨h.val * 160 + d.val, by omega⟩ (by show h.val * 160 + d.val = 2560 * (h.val / 16) + (160 * (h.val % 16) + d.val); omega) _
      (by show 5 * (h.val / 16) + (160 * (h.val % 16) + d.val) / 512 < ytN h.val; unfold ytN; omega)
      (by show ytN h.val ≤ 5 * (h.val / 16) + (160 * (h.val % 16) + d.val) / 512 + 5; unfold ytN; omega) (by unfold ytN; omega))
  match a with
  | ⟨0, _⟩ => show b.val % 2 + 1 * 0 = b.val; omega
  | ⟨1, _⟩ => show 160 * (h.val % 16) + 1 * d.val = 160 * (h.val % 16) + d.val; omega
  | ⟨2, _⟩ => show 0 + 1 * i.val = i.val; omega

end Cert.Kernel.Hand

end
-- ==== Proof.KCol.lean ====
/-
  A head's operations in the kernel, at an index.
-/
module

public import proofs.«01_k».proof.Proof.KHead

@[expose] public section

set_option maxRecDepth 65536

noncomputable section

namespace Cert.Kernel.Hand

open Cert.Kernel Cert.Kernel.Gen Cert.Quant
open Idealize.ShloMosaic Idealize.ShloMosaic.TcCoe Idealize.ShloMosaic.Tactic

section cols
variable (t w v : FVec Ideal S160x128 .f32) (cs sn : FVec Ideal S80x128 .f32) (d : Fin 160) (i : Fin 128)

theorem nrm_def (t w : Fin 160 → EReal) (d : Fin 160) :
    t d * Ideal.rsqrt (Ideal.div (∑ k, t k * t k) (Ideal.ofBits .f32 0x43200000#32) + Ideal.ofBits .f32 0x358637BD#32) * w d = nrm t w d := rfl
theorem absf_eq (x : Ideal .f32) : FloatOps.absf (F := Ideal) (φ := .f32) x = max x (-x) := Eq.trans rfl rfl

theorem normT_at : normT t w (ix2 d i) = nrm (fun d => t (ix2 d i)) (fun d => w (ix2 d i)) d := by
  rw [← nrm_def]
  pointwise [normT]

theorem lo_at (d : Fin 80) : lo t (ix2 d i) = t (ix2 ⟨d.val, by omega⟩ i) := by
  pointwise [lo]
theorem hi_at (d : Fin 80) : hi t (ix2 d i) = t (ix2 ⟨80 + d.val, by omega⟩ i) := by
  pointwise [hi]
attribute [local irreducible] lo hi normT
theorem rotLo_at (d : Fin 80) : rotLo t cs sn (ix2 d i) = t (ix2 ⟨d.val, by omega⟩ i) * cs (ix2 d i) - t (ix2 ⟨80 + d.val, by omega⟩ i) * sn (ix2 d i) := by
  rw [← lo_at t i d, ← hi_at t i d]
  pointwise [rotLo]
theorem rotHi_at (d : Fin 80) : rotHi t cs sn (ix2 d i) = t (ix2 ⟨80 + d.val, by omega⟩ i) * cs (ix2 d i) + t (ix2 ⟨d.val, by omega⟩ i) * sn (ix2 d i) := by
  rw [← lo_at t i d, ← hi_at t i d]
  pointwise [rotHi]

theorem cat_at (a b : FVec Ideal S80x128 .f32) : concatenate S160x128 0 [⟨S80x128, a⟩, ⟨S80x128, b⟩] concatenates_S80x128_S80x128_S160x128_d0 (ix2 d i)
    = if h : d.val < 80 then a (ix2 ⟨d.val, h⟩ i) else b (ix2 ⟨d.val - 80, by omega⟩ i) := by
  pointwise

theorem tCol_at : tCol v (ix2 0 i) = amax (fun d => v (ix2 d i)) * kap := by
  unfold amax
  pointwise [tCol]
  simp only [absf_eq]
theorem ebCol_at (t : FVec Ideal S1x128 .f32) : ebCol t (ix2 0 i) = field (t (ix2 0 i)) := by
  pointwise [ebCol]
  rfl
attribute [local irreducible] tCol ebCol
theorem scCol_at : scCol v (ix3 0 0 i) = Ideal.exp2 (expo (amax fun d => v (ix2 d i))) := by
  rw [← scale_eq _ (amax_nonneg _), ← tCol_at, ← ebCol_at]
  generalize ht : tCol v = t
  unfold scCol
  rw [ht]
  generalize ebCol t = e
  pointwise
  rfl
theorem codeCol_at : codeCol v (ix4 0 0 d i) = code (v (ix2 d i)) (expo (amax fun d => v (ix2 d i))) := by
  unfold code
  rw [← inv_eq _ (amax_nonneg _), ← tCol_at, ← ebCol_at]
  generalize ht : tCol v = t
  unfold codeCol
  rw [ht]
  generalize ebCol t = e
  pointwise
  rfl
end cols

variable (c : Dev nD) (x0 : Bf (F := Ideal) c (Memref.whole main_v0)) (x1 : Bf (F := Ideal) c (Memref.whole main_arg3)) (x2 : Bf (F := Ideal) c (Memref.whole main_arg1))
  (x3 : Bf (F := Ideal) c (Memref.whole main_v1)) (x4 : Bf (F := Ideal) c (Memref.whole main_v2)) (x5 : Bf (F := Ideal) c (Memref.whole main_v3)) (x6 : Bf (F := Ideal) c (Memref.whole main_v4))
  (s1 : Bf (F := Ideal) c (Memref.whole cc0_scratch1)) (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5)) (s6 : Bf (F := Ideal) c (Memref.whole cc0_scratch6))

/-- The heads of token `i` of batch `b`. -/
abbrev hd (b : Fin 2) (h : Fin 64) (i : Fin 128) : Fin 160 → EReal := yh (xr c x0 (bt b i)) (nr c x3) (wm c x1) (wsr c x4) h
/-- A query and a key. -/
def qv (b : Fin 2) (h : Fin 48) (i : Fin 128) (d : Fin 160) : EReal := rot (nrm (hd c x0 x1 x3 x4 b ⟨h.val, by omega⟩ i) (qn c x5)) (ps c x2 b i) d
def kv (b : Fin 2) (h : Fin 8) (i : Fin 128) (d : Fin 160) : EReal := rot (nrm (hd c x0 x1 x3 x4 b ⟨48 + h.val, by omega⟩ i) (kn c x6)) (ps c x2 b i) d
def vv (b : Fin 2) (h : Fin 8) (i : Fin 128) (d : Fin 160) : EReal := hd c x0 x1 x3 x4 b ⟨56 + h.val, by omega⟩ i d

attribute [local irreducible] headT normT rotLo rotHi cosT sinT

theorem qT_at (b : Fin 2) (h : Fin 48) (d : Fin 160) (i : Fin 128) : qT c x0 x1 x3 x4 x5 s1 s3 s4 s5 b.val h.val (ix2 d i) = nrm (hd c x0 x1 x3 x4 b ⟨h.val, by omega⟩ i) (qn c x5) d := by
  unfold qT
  rw [normT_at]
  have e1 : ∀ d, headT c x0 x1 x3 x4 s1 s3 s4 b.val h.val (ix2 d i) = hd c x0 x1 x3 x4 b ⟨h.val, by omega⟩ i d := fun d => headT_at c x0 x1 x3 x4 s1 s3 s4 b ⟨h.val, by omega⟩ d i
  simp only [e1, qn_at]

/-- The two halves of a turned head are its turned entries. -/
theorem rot_lo (f : Fin 160 → EReal) (p : BitVec 32) (d : Fin 80) : f ⟨d.val, by omega⟩ * Ideal.cos (ang p d) - f ⟨80 + d.val, by omega⟩ * Ideal.sin (ang p d) = rot f p ⟨d.val, by omega⟩ := by
  unfold rot
  rw [dif_pos d.isLt]
theorem rot_hi (f : Fin 160 → EReal) (p : BitVec 32) (d : Fin 80) : f ⟨80 + d.val, by omega⟩ * Ideal.cos (ang p d) + f ⟨d.val, by omega⟩ * Ideal.sin (ang p d) = rot f p ⟨80 + d.val, by omega⟩ := by
  unfold rot
  rw [dif_neg (by show ¬ 80 + d.val < 80; omega)]
  have e : (⟨80 + d.val - 80, by omega⟩ : Fin 80) = d := Fin.ext (by show 80 + d.val - 80 = d.val; omega)
  have e' : (⟨80 + d.val - 80, by omega⟩ : Fin 160) = ⟨d.val, by omega⟩ := Fin.ext (by show 80 + d.val - 80 = d.val; omega)
  simp only [e, e']

theorem qLo_at (b : Fin 2) (h : Fin 48) (d : Fin 80) (i : Fin 128) : rotLo (qT c x0 x1 x3 x4 x5 s1 s3 s4 s5 b.val h.val) (cosT c x2 s2 b.val) (sinT c x2 s2 b.val) (ix2 d i)
    = qv c x0 x1 x2 x3 x4 x5 b h i ⟨d.val, by omega⟩ := by
  rw [rotLo_at, cosT_at, sinT_at, qT_at, qT_at]
  exact rot_lo _ _ d
theorem qHi_at (b : Fin 2) (h : Fin 48) (d : Fin 80) (i : Fin 128) : rotHi (qT c x0 x1 x3 x4 x5 s1 s3 s4 s5 b.val h.val) (cosT c x2 s2 b.val) (sinT c x2 s2 b.val) (ix2 d i)
    = qv c x0 x1 x2 x3 x4 x5 b h i ⟨80 + d.val, by omega⟩ := by
  rw [rotHi_at, cosT_at, sinT_at, qT_at, qT_at]
  exact rot_hi _ _ d

theorem kT_at (b : Fin 2) (h : Fin 8) (d : Fin 160) (i : Fin 128) : kT c x0 x1 x2 x3 x4 x6 s1 s2 s3 s4 s6 b.val h.val (ix2 d i) = kv c x0 x1 x2 x3 x4 x6 b h i d := by
  have e1 : ∀ d, normT (headT c x0 x1 x3 x4 s1 s3 s4 b.val (48 + h.val)) (kernelRun.sl.v13128 c x6 s6) (ix2 d i) = nrm (hd c x0 x1 x3 x4 b ⟨48 + h.val, by omega⟩ i) (kn c x6) d := by
    intro d
    rw [normT_at]
    have e2 : ∀ d, headT c x0 x1 x3 x4 s1 s3 s4 b.val (48 + h.val) (ix2 d i) = hd c x0 x1 x3 x4 b ⟨48 + h.val, by omega⟩ i d := fun d => headT_at c x0 x1 x3 x4 s1 s3 s4 b ⟨48 + h.val, by omega⟩ d i
    simp only [e2, kn_at]
  unfold kT
  rw [cat_at]
  split
  · next hd =>
    rw [rotLo_at, cosT_at, sinT_at, e1, e1]
    exact rot_lo _ _ ⟨d.val, hd⟩
  · next hd =>
    rw [rotHi_at, cosT_at, sinT_at, e1, e1]
    refine (rot_hi _ _ ⟨d.val - 80, by omega⟩).trans (congrArg _ (Fin.ext ?_))
    show 80 + (d.val - 80) = d.val
    omega

theorem vT_at (b : Fin 2) (h : Fin 8) (d : Fin 160) (i : Fin 128) : vT c x0 x1 x3 x4 s1 s3 s4 b.val h.val (ix2 d i) = vv c x0 x1 x3 x4 b h i d := by
  unfold vT vv
  exact headT_at c x0 x1 x3 x4 s1 s3 s4 b ⟨56 + h.val, by omega⟩ d i

/-- What the stored codes and scales read, when `f` holds the heads. -/
theorem code_reads (f : ℕ → ℕ → FVec Ideal S160x128 .f32) (g : Fin 2 → Fin 8 → Fin 128 → Fin 160 → EReal) (hf : ∀ (b : Fin 2) (h : Fin 8) d i, f b.val h.val (ix2 d i) = g b h i d)
    (b : Fin 2) (h : Fin 8) (d : Fin 160) (i : Fin 128) :
    Reads (Val := Elt Ideal) (s := S2x8x160x128) (e := .fp8e4m3) (ix4 b h d i) (code (g b h i d) (expo (amax (g b h i)))) (codePieces f 16) := by
  refine Reads.stack _ _ (2 * h.val + b.val) ?_ 16 (by omega) fun k _ hk => agrees_unit (inbK k (k / 2)) _ _ _ fun x hx => ?_
  · refine mem_unit (inbK _ _) _ fun a => ?_
    match a with
    | ⟨0, _⟩ => show (2 * h.val + b.val) % 2 ≤ b.val ∧ b.val < (2 * h.val + b.val) % 2 + 1; omega
    | ⟨1, _⟩ => show (2 * h.val + b.val) / 2 % 8 ≤ h.val ∧ h.val < (2 * h.val + b.val) / 2 % 8 + 1; omega
    | ⟨2, _⟩ => show 0 ≤ d.val ∧ d.val < 0 + 160; omega
    | ⟨3, _⟩ => show 0 ≤ i.val ∧ i.val < 0 + 128; omega
  · have g0 : b.val = k % 2 + (x 0).val := hx 0
    have g1 : h.val = k / 2 % 8 + (x 1).val := hx 1
    have g2 : d.val = 0 + (x 2).val := hx 2
    have g3 : i.val = 0 + (x 3).val := hx 3
    have hx0 : (x 0).val < 1 := (x 0).isLt
    have hx1 : (x 1).val < 1 := (x 1).isLt
    refine (congrArg _ (show x = ix4 (n0 := 1) (n1 := 1) (n2 := 160) (n3 := 128) 0 0 d i from funext fun a => Fin.ext ?_)).trans ((codeCol_at _ d i).trans ?_)
    · match a with
      | ⟨0, _⟩ => show (x 0).val = 0; omega
      | ⟨1, _⟩ => show (x 1).val = 0; omega
      | ⟨2, _⟩ => show (x 2).val = d.val; omega
      | ⟨3, _⟩ => show (x 3).val = i.val; omega
    · rw [show k % 2 = b.val by omega, show k / 2 = h.val by omega]
      simp only [hf]
theorem scale_reads (f : ℕ → ℕ → FVec Ideal S160x128 .f32) (g : Fin 2 → Fin 8 → Fin 128 → Fin 160 → EReal) (hf : ∀ (b : Fin 2) (h : Fin 8) d i, f b.val h.val (ix2 d i) = g b h i d)
    (b : Fin 2) (h : Fin 8) (i : Fin 128) :
    Reads (Val := Elt Ideal) (s := S2x8x128) (e := .f32) (ix3 b h i) (Ideal.exp2 (expo (amax (g b h i)))) (scalePieces f 16) := by
  refine Reads.stack _ _ (2 * h.val + b.val) ?_ 16 (by omega) fun k _ hk => agrees_unit (inbZ k (k / 2)) _ _ _ fun x hx => ?_
  · refine mem_unit (inbZ _ _) _ fun a => ?_
    match a with
    | ⟨0, _⟩ => show (2 * h.val + b.val) % 2 ≤ b.val ∧ b.val < (2 * h.val + b.val) % 2 + 1; omega
    | ⟨1, _⟩ => show (2 * h.val + b.val) / 2 % 8 ≤ h.val ∧ h.val < (2 * h.val + b.val) / 2 % 8 + 1; omega
    | ⟨2, _⟩ => show 0 ≤ i.val ∧ i.val < 0 + 128; omega
  · have g0 : b.val = k % 2 + (x 0).val := hx 0
    have g1 : h.val = k / 2 % 8 + (x 1).val := hx 1
    have g3 : i.val = 0 + (x 2).val := hx 2
    have hx0 : (x 0).val < 1 := (x 0).isLt
    have hx1 : (x 1).val < 1 := (x 1).isLt
    refine (congrArg _ (show x = ix3 (n0 := 1) (n1 := 1) (n2 := 128) 0 0 i from funext fun a => Fin.ext ?_)).trans ((scCol_at _ i).trans ?_)
    · match a with
      | ⟨0, _⟩ => show (x 0).val = 0; omega
      | ⟨1, _⟩ => show (x 1).val = 0; omega
      | ⟨2, _⟩ => show (x 2).val = i.val; omega
    · rw [show k % 2 = b.val by omega, show k / 2 = h.val by omega]
      simp only [hf]

end Cert.Kernel.Hand

end
-- ==== Proof.Out.lean ====
/-
  What the kernel body leaves in the seven results, written with loops.
-/
module

public import proofs.«01_k».proof.Proof.Loop3

@[expose] public section

set_option maxRecDepth 65536

noncomputable section

namespace Cert.Kernel.Hand

open Cert.Kernel Cert.Kernel.Gen
open Idealize.ShloMosaic Idealize.ShloMosaic.TcCoe Idealize.ShloMosaic.Tactic

variable {F : FTy → Type} [FloatOps F]

/-- First head and number of heads sent out after step `p`. -/
def sendH (p : ℕ) : ℕ := 16 * (p / 5) + 3 * (p % 5)
def sendN (p : ℕ) : ℕ := if p % 5 = 4 then 4 else 3
abbrev SqS (n : ℕ) : Shape := ⟨4, ![1, n, 160, 128]⟩
abbrev SqD (n : ℕ) : Shape := ⟨3, ![n, 160, 128]⟩
theorem inbO (b p : ℕ) : ∀ a, (![b % 2, sendH (p % 15), 0, 0] : Fin 4 → ℕ) a + (SqS (sendN (p % 15))).size a ≤ S2x48x160x128.size a := by
  intro a
  have h1 := Nat.mod_lt b (by decide : 0 < 2)
  have h2 := Nat.mod_lt p (by decide : 0 < 15)
  match a with
  | ⟨0, _⟩ => show b % 2 + 1 ≤ 2; omega
  | ⟨1, _⟩ => show 16 * (p % 15 / 5) + 3 * (p % 15 % 5) + (if p % 15 % 5 = 4 then 4 else 3) ≤ 48; split <;> omega
  | ⟨2, _⟩ => show 0 + 160 ≤ 160; omega
  | ⟨3, _⟩ => show 0 + 128 ≤ 128; omega
/-- The heads sent out after step `p`, of batch `b`. -/
abbrev rectO (b p : ℕ) : Rect S2x48x160x128 := Rect.unit ![b % 2, sendH (p % 15), 0, 0] (SqS (sendN (p % 15))).size (inbO b p)

theorem sqO (p : ℕ) : (SqS (sendN p)).Squeezes (SqD (sendN p)) := by
  unfold sendN
  split <;> decide

variable (c : Dev nD) (x0 : Bf (F := F) c (Memref.whole main_v0)) (x1 : Bf (F := F) c (Memref.whole main_arg3)) (x2 : Bf (F := F) c (Memref.whole main_arg1)) (x3 : Bf (F := F) c (Memref.whole main_v1)) (x4 : Bf (F := F) c (Memref.whole main_v2)) (x5 : Bf (F := F) c (Memref.whole main_v3)) (x6 : Bf (F := F) c (Memref.whole main_v4))
    (r0 : Bf (F := F) c (Memref.whole main_v5_0)) (r1 : Bf (F := F) c (Memref.whole main_v5_1)) (r2 : Bf (F := F) c (Memref.whole main_v5_2)) (r3 : Bf (F := F) c (Memref.whole main_v5_3)) (r4 : Bf (F := F) c (Memref.whole main_v5_4)) (r5 : Bf (F := F) c (Memref.whole main_v5_5)) (r6 : Bf (F := F) c (Memref.whole main_v5_6))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21))

/-- The heads of batch `b` of `f` sent out after step `p` into `g`, when `n` heads are stored. -/
def sendOut (b p : ℕ) (g : Bf (F := F) c (Memref.whole main_v5_0)) : Bf (F := F) c (Memref.whole main_v5_0) :=
  View.write (Elt F) (((Memref.whole main_v5_0).slice (rectO b p) (fun _ => rfl)).squeeze (SqD (sendN (p % 15))) (sqO (p % 15))).view g
    (ReadAs.same.apply (View.read (Elt F) (((Memref.whole cc0_scratch17).slice (rectO b p) (fun _ => rfl)).squeeze (SqD (sendN (p % 15))) (sqO (p % 15))).view
      ((Memref.whole cc0_scratch17).view.writes (Elt F) s17 (qPieces c x0 x1 x2 x3 x4 x5 s1 s2 s3 s4 s5 (sendH p + sendN p))))) Finset.univ
/-- The queries' array after the copies of the first `n` steps. -/
def qSent (n : ℕ) : Bf (F := F) c (Memref.whole main_v5_0) :=
  steps (fun p g => sendOut c x0 x1 x2 x3 x4 x5 s1 s2 s3 s4 s5 s17 1 p (sendOut c x0 x1 x2 x3 x4 x5 s1 s2 s3 s4 s5 s17 0 p g)) r0 n

set_option maxHeartbeats 0
theorem out0_eq : (kernelRun c x0 x1 x2 x3 x4 x5 x6 r0 r1 r2 r3 r4 r5 r6 s0 s1 s2 s3 s4 s5 s6 s7 s8 s9 s10 s11 s12 s13 s14 s15 s16 s17 s18 s19 s20 s21).1.1 = qSent c x0 x1 x2 x3 x4 x5 r0 s1 s2 s3 s4 s5 s17 15 := by sl_kernel_rfl
theorem out1_eq : (kernelRun c x0 x1 x2 x3 x4 x5 x6 r0 r1 r2 r3 r4 r5 r6 s0 s1 s2 s3 s4 s5 s6 s7 s8 s9 s10 s11 s12 s13 s14 s15 s16 s17 s18 s19 s20 s21).1.2.1 = View.write (Elt F) (Memref.whole main_v5_1).view r1 (ReadAs.same.apply (View.read (Elt F) (Memref.whole cc0_scratch7).view ((Memref.whole cc0_scratch7).view.writes (Elt F) s7 (hqPieces c x0 x3 s3 8)))) Finset.univ := by sl_kernel_rfl
theorem out2_eq : (kernelRun c x0 x1 x2 x3 x4 x5 x6 r0 r1 r2 r3 r4 r5 r6 s0 s1 s2 s3 s4 s5 s6 s7 s8 s9 s10 s11 s12 s13 s14 s15 s16 s17 s18 s19 s20 s21).1.2.2.1 = View.write (Elt F) (Memref.whole main_v5_2).view r2 (ReadAs.same.apply (View.read (Elt F) (Memref.whole cc0_scratch9).view ((Memref.whole cc0_scratch9).view.writes (Elt F) s9 (kernelRun.sl.Hs9_2 c x0 x3 s3)))) Finset.univ := by sl_kernel_rfl
theorem out3_eq : (kernelRun c x0 x1 x2 x3 x4 x5 x6 r0 r1 r2 r3 r4 r5 r6 s0 s1 s2 s3 s4 s5 s6 s7 s8 s9 s10 s11 s12 s13 s14 s15 s16 s17 s18 s19 s20 s21).1.2.2.2.1 = View.write (Elt F) (Memref.whole main_v5_3).view r3 (ReadAs.same.apply (View.read (Elt F) (Memref.whole cc0_scratch18).view ((Memref.whole cc0_scratch18).view.writes (Elt F) s18 (codePieces (kT c x0 x1 x2 x3 x4 x6 s1 s2 s3 s4 s6) 16)))) Finset.univ := by sl_kernel_rfl
theorem out4_eq : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.1 = View.write (Elt F) (Memref.whole main_v5_4).view r4 (ReadAs.same.apply (View.read (Elt F) (Memref.whole cc0_scratch19).view ((Memref.whole cc0_scratch19).view.writes (Elt F) s19 (scalePieces (kT c x0 x1 x2 x3 x4 x6 s1 s2 s3 s4 s6) 16)))) Finset.univ := by sl_kernel_rfl
theorem out5_eq : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.2.1 = View.write (Elt F) (Memref.whole main_v5_5).view r5 (ReadAs.same.apply (View.read (Elt F) (Memref.whole cc0_scratch20).view ((Memref.whole cc0_scratch20).view.writes (Elt F) s20 (codePieces (vT c x0 x1 x3 x4 s1 s3 s4) 16)))) Finset.univ := by sl_kernel_rfl
theorem out6_eq : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.2.2 = View.write (Elt F) (Memref.whole main_v5_6).view r6 (ReadAs.same.apply (View.read (Elt F) (Memref.whole cc0_scratch21).view ((Memref.whole cc0_scratch21).view.writes (Elt F) s21 (scalePieces (vT c x0 x1 x3 x4 s1 s3 s4) 16)))) Finset.univ := by sl_kernel_rfl

end Cert.Kernel.Hand

end
-- ==== Proof.KOut.lean ====
/-
  What the kernel body leaves in the seven results, at an index.
-/
module

public import proofs.«01_k».proof.Proof.KCol
public import proofs.«01_k».proof.Proof.Out

@[expose] public section

set_option maxRecDepth 65536

noncomputable section

namespace Cert.Kernel.Hand

open Cert.Kernel Cert.Kernel.Gen Cert.Quant
open Idealize.ShloMosaic Idealize.ShloMosaic.TcCoe Idealize.ShloMosaic.Tactic

variable (c : Dev nD) (x0 : Bf (F := Ideal) c (Memref.whole main_v0)) (x1 : Bf (F := Ideal) c (Memref.whole main_arg3)) (x2 : Bf (F := Ideal) c (Memref.whole main_arg1))
  (x3 : Bf (F := Ideal) c (Memref.whole main_v1)) (x4 : Bf (F := Ideal) c (Memref.whole main_v2)) (x5 : Bf (F := Ideal) c (Memref.whole main_v3)) (x6 : Bf (F := Ideal) c (Memref.whole main_v4))
  (r0 : Bf (F := Ideal) c (Memref.whole main_v5_0)) (r1 : Bf (F := Ideal) c (Memref.whole main_v5_1)) (r2 : Bf (F := Ideal) c (Memref.whole main_v5_2)) (r3 : Bf (F := Ideal) c (Memref.whole main_v5_3)) (r4 : Bf (F := Ideal) c (Memref.whole main_v5_4)) (r5 : Bf (F := Ideal) c (Memref.whole main_v5_5)) (r6 : Bf (F := Ideal) c (Memref.whole main_v5_6))
  (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s8 : Bf (F := Ideal) c (Memref.whole cc0_scratch8)) (s9 : Bf (F := Ideal) c (Memref.whole cc0_scratch9)) (s10 : Bf (F := Ideal) c (Memref.whole cc0_scratch10)) (s11 : Bf (F := Ideal) c (Memref.whole cc0_scratch11)) (s12 : Bf (F := Ideal) c (Memref.whole cc0_scratch12)) (s13 : Bf (F := Ideal) c (Memref.whole cc0_scratch13)) (s14 : Bf (F := Ideal) c (Memref.whole cc0_scratch14)) (s15 : Bf (F := Ideal) c (Memref.whole cc0_scratch15)) (s16 : Bf (F := Ideal) c (Memref.whole cc0_scratch16)) (s17 : Bf (F := Ideal) c (Memref.whole cc0_scratch17)) (s18 : Bf (F := Ideal) c (Memref.whole cc0_scratch18)) (s19 : Bf (F := Ideal) c (Memref.whole cc0_scratch19)) (s20 : Bf (F := Ideal) c (Memref.whole cc0_scratch20)) (s21 : Bf (F := Ideal) c (Memref.whole cc0_scratch21))

theorem sq11 (v : FVec Ideal S80x128 .bf16) (d : Fin 80) (i : Fin 128) : shapeCast S1x1x80x128 v shapeCasts_S80x128_S1x1x80x128 (ix4 0 0 d i) = v (ix2 d i) := by
  pointwise
theorem trunc_at (v : FVec Ideal S80x128 .f32) (j : S80x128.Idx) : truncf .bf16 v bitsLt_bf16_f32 j = v j := Eq.trans rfl rfl

attribute [local irreducible] qT rotLo rotHi cosT sinT

/-- The stored halves of the queries. -/
theorem qHi_agrees (b : Fin 2) (h : Fin 48) (d : Fin 160) (i : Fin 128) (b' h' : ℕ) (hb : b' < 2) (hh : h' < 48) :
    Agrees (Val := Elt Ideal) (s := S2x48x160x128) (e := .bf16) (qHi c x0 x1 x2 x3 x4 x5 s1 s2 s3 s4 s5 b' h') (ix4 b h d i) (qv c x0 x1 x2 x3 x4 x5 b h i d) := by
  unfold qHi
  refine agrees_unit (inbQ b' h' 1) _ _ _ fun x hx => ?_
  have g0 : b.val = b' % 2 + (x 0).val := hx 0
  have g1 : h.val = h' % 48 + (x 1).val := hx 1
  have g2 : d.val = 80 + (x 2).val := hx 2
  have g3 : i.val = 0 + (x 3).val := hx 3
  have hx0 : (x 0).val < 1 := (x 0).isLt
  have hx1 : (x 1).val < 1 := (x 1).isLt
  have hx2 : (x 2).val < 80 := (x 2).isLt
  obtain rfl : b' = b.val := by omega
  obtain rfl : h' = h.val := by omega
  refine (congrArg _ (show x = ix4 (n0 := 1) (n1 := 1) (n2 := 80) (n3 := 128) 0 0 ⟨(x 2).val, hx2⟩ i from funext fun a => Fin.ext ?_)).trans
    ((sq11 _ _ i).trans ((trunc_at _ _).trans ((qHi_at c x0 x1 x2 x3 x4 x5 s1 s2 s3 s4 s5 b h _ i).trans (congrArg _ (Fin.ext ?_)))))
  · match a with
    | ⟨0, _⟩ => show (x 0).val = 0; omega
    | ⟨1, _⟩ => show (x 1).val = 0; omega
    | ⟨2, _⟩ => rfl
    | ⟨3, _⟩ => show (x 3).val = i.val; omega
  · exact g2.symm
theorem qLo_agrees (b : Fin 2) (h : Fin 48) (d : Fin 160) (i : Fin 128) (b' h' : ℕ) (hb : b' < 2) (hh : h' < 48) :
    Agrees (Val := Elt Ideal) (s := S2x48x160x128) (e := .bf16) (qLo c x0 x1 x2 x3 x4 x5 s1 s2 s3 s4 s5 b' h') (ix4 b h d i) (qv c x0 x1 x2 x3 x4 x5 b h i d) := by
  unfold qLo
  refine agrees_unit (inbQ b' h' 0) _ _ _ fun x hx => ?_
  have g0 : b.val = b' % 2 + (x 0).val := hx 0
  have g1 : h.val = h' % 48 + (x 1).val := hx 1
  have g2 : d.val = 0 + (x 2).val := hx 2
  have g3 : i.val = 0 + (x 3).val := hx 3
  have hx0 : (x 0).val < 1 := (x 0).isLt
  have hx1 : (x 1).val < 1 := (x 1).isLt
  have hx2 : (x 2).val < 80 := (x 2).isLt
  obtain rfl : b' = b.val := by omega
  obtain rfl : h' = h.val := by omega
  refine (congrArg _ (show x = ix4 (n0 := 1) (n1 := 1) (n2 := 80) (n3 := 128) 0 0 ⟨(x 2).val, hx2⟩ i from funext fun a => Fin.ext ?_)).trans
    ((sq11 _ _ i).trans ((trunc_at _ _).trans ((qLo_at c x0 x1 x2 x3 x4 x5 s1 s2 s3 s4 s5 b h _ i).trans (congrArg _ (Fin.ext ?_)))))
  · match a with
    | ⟨0, _⟩ => show (x 0).val = 0; omega
    | ⟨1, _⟩ => show (x 1).val = 0; omega
    | ⟨2, _⟩ => rfl
    | ⟨3, _⟩ => show (x 3).val = i.val; omega
  · show (x 2).val = d.val
    omega

theorem mem_Q (b : Fin 2) (h : Fin 48) (d : Fin 160) (i : Fin 128) (b' h' d' : ℕ) (hb : b' = b.val) (hh : h' = h.val) (hd : d.val / 80 = d') :
    (ix4 b h d i : S2x48x160x128.Idx) ∈ (rectQ b' h' d').set := by
  refine mem_unit (inbQ b' h' d') _ fun a => ?_
  match a with
  | ⟨0, _⟩ => show b' % 2 ≤ b.val ∧ b.val < b' % 2 + 1; omega
  | ⟨1, _⟩ => show h' % 48 ≤ h.val ∧ h.val < h' % 48 + 1; omega
  | ⟨2, _⟩ => show 80 * (d' % 2) ≤ d.val ∧ d.val < 80 * (d' % 2) + 80; omega
  | ⟨3, _⟩ => show 0 ≤ i.val ∧ i.val < 0 + 128; omega

theorem q_reads (b : Fin 2) (h : Fin 48) (d : Fin 160) (i : Fin 128) : ∀ n, h.val < n → n ≤ 48 →
    Reads (Val := Elt Ideal) (s := S2x48x160x128) (e := .bf16) (ix4 b h d i) (qv c x0 x1 x2 x3 x4 x5 b h i d) (qPieces c x0 x1 x2 x3 x4 x5 s1 s2 s3 s4 s5 n)
  | n + 1, h1, h2 => by
    have a1 := qHi_agrees c x0 x1 x2 x3 x4 x5 s1 s2 s3 s4 s5 b h d i 1 n (by omega) (by omega)
    have a2 := qLo_agrees c x0 x1 x2 x3 x4 x5 s1 s2 s3 s4 s5 b h d i 1 n (by omega) (by omega)
    have a3 := qHi_agrees c x0 x1 x2 x3 x4 x5 s1 s2 s3 s4 s5 b h d i 0 n (by omega) (by omega)
    have a4 := qLo_agrees c x0 x1 x2 x3 x4 x5 s1 s2 s3 s4 s5 b h d i 0 n (by omega) (by omega)
    unfold qPieces
    by_cases e : n = h.val
    · by_cases eb : b.val = 1
      · by_cases ed : d.val < 80
        · exact .skip _ _ a1 (.hit _ _ a2 (mem_Q b h d i 1 n 0 (by omega) e (by omega)))
        · exact .hit _ _ a1 (mem_Q b h d i 1 n 1 (by omega) e (by omega))
      · by_cases ed : d.val < 80
        · exact .skip _ _ a1 (.skip _ _ a2 (.skip _ _ a3 (.hit _ _ a4 (mem_Q b h d i 0 n 0 (by omega) e (by omega)))))
        · exact .skip _ _ a1 (.skip _ _ a2 (.hit _ _ a3 (mem_Q b h d i 0 n 1 (by omega) e (by omega))))
    · exact .skip _ _ a1 (.skip _ _ a2 (.skip _ _ a3 (.skip _ _ a4 (q_reads b h d i n (by omega) (by omega)))))

theorem send_succ (n : ℕ) : sendH n + sendN n = sendH (n + 1) := by
  unfold sendH sendN
  split <;> omega
theorem send_le (n : ℕ) (hn : n ≤ 15) : sendH n ≤ 48 := by
  unfold sendH
  omega

/-- A copy out leaves a query where it lands. -/
theorem sendOut_read (b : Fin 2) (h : Fin 48) (d : Fin 160) (i : Fin 128) (b' n : ℕ) (hn : n < 15) (g : Bf (F := Ideal) c (Memref.whole main_v5_0))
    (hy : (b' = b.val ∧ sendH n ≤ h.val ∧ h.val < sendH n + sendN n) ∨ View.read (Elt Ideal) (Memref.whole main_v5_0).view g (ix4 (n0 := 2) (n1 := 48) (n2 := 160) (n3 := 128) b h d i) = qv c x0 x1 x2 x3 x4 x5 b h i d) :
    View.read (Elt Ideal) (Memref.whole main_v5_0).view (sendOut c x0 x1 x2 x3 x4 x5 s1 s2 s3 s4 s5 s17 b' n g) (ix4 (n0 := 2) (n1 := 48) (n2 := 160) (n3 := 128) b h d i) = qv c x0 x1 x2 x3 x4 x5 b h i d := by
  have en : n % 15 = n := Nat.mod_eq_of_lt hn
  have hs := send_succ n
  have hl := send_le (n + 1) (by omega)
  unfold sendOut
  refine write_reshape (Memref.whole main_v5_0).view (rectO b' n) _ _ _ _ _ (fun x hx => ?_) ?_
  · have g1 := congrArg (fun y : S2x48x160x128.Idx => (y 1).val) hx
    have g2 : ((Shape.reshapeEquiv (sqO (n % 15)).numel_eq x : (SqS (sendN (n % 15))).Idx) 1).val < sendN (n % 15) := Fin.isLt _
    have g3 : h.val < sendH n + sendN n := by
      have g4 : sendH (n % 15) + 1 * _ = h.val := g1
      have e1 : sendH (n % 15) = sendH n := by rw [en]
      have e2 : sendN (n % 15) = sendN n := by rw [en]
      omega
    refine Eq.trans ?_ ((q_reads c x0 x1 x2 x3 x4 x5 s1 s2 s3 s4 s5 b h d i (sendH n + sendN n) g3 (by omega)).read (Memref.whole cc0_scratch17).view s17)
    rw [← hx]
    rfl
  · refine hy.imp (fun ⟨e0, e1, e2⟩ => mem_unit (inbO b' n) _ fun a => ?_) id
    match a with
    | ⟨0, _⟩ => show b' % 2 ≤ b.val ∧ b.val < b' % 2 + 1; omega
    | ⟨1, _⟩ => show sendH (n % 15) ≤ h.val ∧ h.val < sendH (n % 15) + sendN (n % 15); rw [en]; omega
    | ⟨2, _⟩ => show 0 ≤ d.val ∧ d.val < 0 + 160; omega
    | ⟨3, _⟩ => show 0 ≤ i.val ∧ i.val < 0 + 128; omega

theorem qSent_at (b : Fin 2) (h : Fin 48) (d : Fin 160) (i : Fin 128) : ∀ n, n ≤ 15 → h.val < sendH n →
    View.read (Elt Ideal) (Memref.whole main_v5_0).view (qSent c x0 x1 x2 x3 x4 x5 r0 s1 s2 s3 s4 s5 s17 n) (ix4 (n0 := 2) (n1 := 48) (n2 := 160) (n3 := 128) b h d i) = qv c x0 x1 x2 x3 x4 x5 b h i d
  | 0, _, hh => absurd hh (by show ¬ h.val < 0; omega)
  | n + 1, h1, h2 => by
    show View.read (Elt Ideal) (Memref.whole main_v5_0).view (sendOut c x0 x1 x2 x3 x4 x5 s1 s2 s3 s4 s5 s17 1 n (sendOut c x0 x1 x2 x3 x4 x5 s1 s2 s3 s4 s5 s17 0 n (qSent c x0 x1 x2 x3 x4 x5 r0 s1 s2 s3 s4 s5 s17 n))) _ = _
    have hs := send_succ n
    by_cases e : h.val < sendH n
    · have ih := qSent_at b h d i n (by omega) e
      exact sendOut_read c x0 x1 x2 x3 x4 x5 s1 s2 s3 s4 s5 s17 b h d i 1 n (by omega) _ (.inr (sendOut_read c x0 x1 x2 x3 x4 x5 s1 s2 s3 s4 s5 s17 b h d i 0 n (by omega) _ (.inr ih)))
    · by_cases eb : b.val = 1
      · exact sendOut_read c x0 x1 x2 x3 x4 x5 s1 s2 s3 s4 s5 s17 b h d i 1 n (by omega) _ (.inl ⟨eb.symm, by omega, by omega⟩)
      · exact sendOut_read c x0 x1 x2 x3 x4 x5 s1 s2 s3 s4 s5 s17 b h d i 1 n (by omega) _ (.inr (sendOut_read c x0 x1 x2 x3 x4 x5 s1 s2 s3 s4 s5 s17 b h d i 0 n (by omega) _ (.inl ⟨by omega, by omega, by omega⟩)))

/-! ### The seven results -/

def res0 : Bf (F := Ideal) c (Memref.whole main_v5_0) := fun y : S2x48x160x128.Idx => qv c x0 x1 x2 x3 x4 x5 (y 0) (y 1) (y 3) (y 2)
def res1 : Bf (F := Ideal) c (Memref.whole main_v5_1) := fun y : S256x5120.Idx => hq (xr c x0 (y 0)) (nr c x3) (y 1)
def res2 : Bf (F := Ideal) c (Memref.whole main_v5_2) := fun y : S2x128.Idx => hs (xr c x0 (bt (y 0) (y 1))) (nr c x3)
def res3 : Bf (F := Ideal) c (Memref.whole main_v5_3) := fun y : S2x8x160x128.Idx => code (kv c x0 x1 x2 x3 x4 x6 (y 0) (y 1) (y 3) (y 2)) (expo (amax (kv c x0 x1 x2 x3 x4 x6 (y 0) (y 1) (y 3))))
def res4 : Bf (F := Ideal) c (Memref.whole main_v5_4) := fun y : S2x8x128.Idx => Ideal.exp2 (expo (amax (kv c x0 x1 x2 x3 x4 x6 (y 0) (y 1) (y 2))))
def res5 : Bf (F := Ideal) c (Memref.whole main_v5_5) := fun y : S2x8x160x128.Idx => code (vv c x0 x1 x3 x4 (y 0) (y 1) (y 3) (y 2)) (expo (amax (vv c x0 x1 x3 x4 (y 0) (y 1) (y 3))))
def res6 : Bf (F := Ideal) c (Memref.whole main_v5_6) := fun y : S2x8x128.Idx => Ideal.exp2 (expo (amax (vv c x0 x1 x3 x4 (y 0) (y 1) (y 2))))

theorem val0 : (kernelRun c x0 x1 x2 x3 x4 x5 x6 r0 r1 r2 r3 r4 r5 r6 s0 s1 s2 s3 s4 s5 s6 s7 s8 s9 s10 s11 s12 s13 s14 s15 s16 s17 s18 s19 s20 s21).1.1 = res0 c x0 x1 x2 x3 x4 x5 := by
  rw [out0_eq]
  funext y
  obtain ⟨b, h, d, i, rfl⟩ : ∃ (b : Fin 2) (h : Fin 48) (d : Fin 160) (i : Fin 128), y = ix4 b h d i := ⟨y 0, y 1, y 2, y 3, eq_ix4 (n0 := 2) (n1 := 48) (n2 := 160) (n3 := 128) y⟩
  exact qSent_at c x0 x1 x2 x3 x4 x5 r0 s1 s2 s3 s4 s5 s17 b h d i 15 (le_refl _) (by show h.val < 48; omega)
theorem val1 : (kernelRun c x0 x1 x2 x3 x4 x5 x6 r0 r1 r2 r3 r4 r5 r6 s0 s1 s2 s3 s4 s5 s6 s7 s8 s9 s10 s11 s12 s13 s14 s15 s16 s17 s18 s19 s20 s21).1.2.1 = res1 c x0 x3 := by
  rw [out1_eq]
  refine (View.write_whole_univ _ _ _).trans ?_
  funext y
  obtain ⟨m, j, rfl⟩ : ∃ (m : Fin 256) (j : Fin 5120), y = ix2 m j := ⟨y 0, y 1, eq_ix2 (n0 := 256) (n1 := 5120) y⟩
  exact (hq_reads c x0 x3 s3 m j 8 (by omega) (le_refl _)).read _ _
theorem val2 : (kernelRun c x0 x1 x2 x3 x4 x5 x6 r0 r1 r2 r3 r4 r5 r6 s0 s1 s2 s3 s4 s5 s6 s7 s8 s9 s10 s11 s12 s13 s14 s15 s16 s17 s18 s19 s20 s21).1.2.2.1 = res2 c x0 x3 := by
  rw [out2_eq]
  refine (View.write_whole_univ _ _ _).trans ?_
  funext y
  obtain ⟨b, i, rfl⟩ : ∃ (b : Fin 2) (i : Fin 128), y = ix2 b i := ⟨y 0, y 1, eq_ix2 (n0 := 2) (n1 := 128) y⟩
  exact (hs9_reads c x0 x3 s3 b i).read _ _
theorem val3 : (kernelRun c x0 x1 x2 x3 x4 x5 x6 r0 r1 r2 r3 r4 r5 r6 s0 s1 s2 s3 s4 s5 s6 s7 s8 s9 s10 s11 s12 s13 s14 s15 s16 s17 s18 s19 s20 s21).1.2.2.2.1 = res3 c x0 x1 x2 x3 x4 x6 := by
  rw [out3_eq]
  refine (View.write_whole_univ _ _ _).trans ?_
  funext y
  obtain ⟨b, h, d, i, rfl⟩ : ∃ (b : Fin 2) (h : Fin 8) (d : Fin 160) (i : Fin 128), y = ix4 b h d i := ⟨y 0, y 1, y 2, y 3, eq_ix4 (n0 := 2) (n1 := 8) (n2 := 160) (n3 := 128) y⟩
  exact (code_reads _ (kv c x0 x1 x2 x3 x4 x6) (fun b h d i => kT_at c x0 x1 x2 x3 x4 x6 s1 s2 s3 s4 s6 b h d i) b h d i).read _ _
theorem val4 : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.1 = res4 c x0 x1 x2 x3 x4 x6 := by
  rw [out4_eq]
  refine (View.write_whole_univ _ _ _).trans ?_
  funext y
  obtain ⟨b, h, i, rfl⟩ : ∃ (b : Fin 2) (h : Fin 8) (i : Fin 128), y = ix3 b h i := ⟨y 0, y 1, y 2, eq_ix3 (n0 := 2) (n1 := 8) (n2 := 128) y⟩
  exact (scale_reads _ (kv c x0 x1 x2 x3 x4 x6) (fun b h d i => kT_at c x0 x1 x2 x3 x4 x6 s1 s2 s3 s4 s6 b h d i) b h i).read _ _
theorem val5 : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.2.1 = res5 c x0 x1 x3 x4 := by
  rw [out5_eq]
  refine (View.write_whole_univ _ _ _).trans ?_
  funext y
  obtain ⟨b, h, d, i, rfl⟩ : ∃ (b : Fin 2) (h : Fin 8) (d : Fin 160) (i : Fin 128), y = ix4 b h d i := ⟨y 0, y 1, y 2, y 3, eq_ix4 (n0 := 2) (n1 := 8) (n2 := 160) (n3 := 128) y⟩
  exact (code_reads _ (vv c x0 x1 x3 x4) (fun b h d i => vT_at c x0 x1 x3 x4 s1 s3 s4 b h d i) b h d i).read _ _
theorem val6 : (kernelRun c x0 x1 x2 x3 x4 x5 x6 r0 r1 r2 r3 r4 r5 r6 s0 s1 s2 s3 s4 s5 s6 s7 s8 s9 s10 s11 s12 s13 s14 s15 s16 s17 s18 s19 s20 s21).1.2.2.2.2.2.2 = res6 c x0 x1 x3 x4 := by
  rw [out6_eq]
  refine (View.write_whole_univ _ _ _).trans ?_
  funext y
  obtain ⟨b, h, i, rfl⟩ : ∃ (b : Fin 2) (h : Fin 8) (i : Fin 128), y = ix3 b h i := ⟨y 0, y 1, y 2, eq_ix3 (n0 := 2) (n1 := 8) (n2 := 128) y⟩
  exact (scale_reads _ (vv c x0 x1 x3 x4) (fun b h d i => vT_at c x0 x1 x3 x4 s1 s3 s4 b h d i) b h i).read _ _

set_option maxHeartbeats 0 in
/-- The body's triple at these results. -/
theorem body_res : BodyTriple c x0 x1 x2 x3 x4 x5 x6 r0 r1 r2 r3 r4 r5 r6 (res0 c x0 x1 x2 x3 x4 x5) (res1 c x0 x3) (res2 c x0 x3) (res3 c x0 x1 x2 x3 x4 x6) (res4 c x0 x1 x2 x3 x4 x6) (res5 c x0 x1 x3 x4) (res6 c x0 x1 x3 x4) := by
  intro s0 s1 s2 s3 s4 s5 s6 s7 s8 s9 s10 s11 s12 s13 s14 s15 s16 s17 s18 s19 s20 s21 W Q
  have e0 := val0 c x0 x1 x2 x3 x4 x5 x6 r0 r1 r2 r3 r4 r5 r6 s0 s1 s2 s3 s4 s5 s6 s7 s8 s9 s10 s11 s12 s13 s14 s15 s16 s17 s18 s19 s20 s21
  have e1 := val1 c x0 x1 x2 x3 x4 x5 x6 r0 r1 r2 r3 r4 r5 r6 s0 s1 s2 s3 s4 s5 s6 s7 s8 s9 s10 s11 s12 s13 s14 s15 s16 s17 s18 s19 s20 s21
  have e2 := val2 c x0 x1 x2 x3 x4 x5 x6 r0 r1 r2 r3 r4 r5 r6 s0 s1 s2 s3 s4 s5 s6 s7 s8 s9 s10 s11 s12 s13 s14 s15 s16 s17 s18 s19 s20 s21
  have e3 := val3 c x0 x1 x2 x3 x4 x5 x6 r0 r1 r2 r3 r4 r5 r6 s0 s1 s2 s3 s4 s5 s6 s7 s8 s9 s10 s11 s12 s13 s14 s15 s16 s17 s18 s19 s20 s21
  have e4 := val4 c x0 x1 x2 x3 x4 x5 x6 r0 r1 r2 r3 r4 r5 r6 s0 s1 s2 s3 s4 s5 s6 s7 s8 s9 s10 s11 s12 s13 s14 s15 s16 s17 s18 s19 s20 s21
  have e5 := val5 c x0 x1 x2 x3 x4 x5 x6 r0 r1 r2 r3 r4 r5 r6 s0 s1 s2 s3 s4 s5 s6 s7 s8 s9 s10 s11 s12 s13 s14 s15 s16 s17 s18 s19 s20 s21
  have e6 := val6 c x0 x1 x2 x3 x4 x5 x6 r0 r1 r2 r3 r4 r5 r6 s0 s1 s2 s3 s4 s5 s6 s7 s8 s9 s10 s11 s12 s13 s14 s15 s16 s17 s18 s19 s20 s21
  generalize kernelRun c x0 x1 x2 x3 x4 x5 x6 r0 r1 r2 r3 r4 r5 r6 s0 s1 s2 s3 s4 s5 s6 s7 s8 s9 s10 s11 s12 s13 s14 s15 s16 s17 s18 s19 s20 s21 = K at e0 e1 e2 e3 e4 e5 e6
  obtain ⟨⟨R0, R1, R2, R3, R4, R5, R6⟩, h⟩ := K
  dsimp only at e0 e1 e2 e3 e4 e5 e6
  subst e0 e1 e2 e3 e4 e5 e6
  exact h W Q

end Cert.Kernel.Hand

end
-- ==== Proof.KHost.lean ====
/-
  The kernel's host lines, and where its run ends.
-/
module

public import proofs.«01_k».proof.Proof.KOut
public import proofs.«01_k».proof.Proof.Frame
public import Idealize.ShloMosaic.Lib.StableHlo.RunRead

@[expose] public section

set_option maxRecDepth 65536

noncomputable section

namespace Cert.Kernel.Hand

open Cert.Kernel Cert.Kernel.Gen Cert.Quant
open Idealize.ShloMosaic Idealize.ShloMosaic.TcCoe Idealize.ShloMosaic.Tactic

section lines
variable {F : FTy → Type} [FloatOps F] (m : (ℓ : Loc nD τ sig) → Buf (Elt F) ℓ) (c : Dev nD)

/-! ### Before the region -/

theorem V_v0 : V m c main_v0 = shapeCast S256x5120 (m ((c : Thread nD τ).loc main_arg0)) shapeCasts_S2x128x5120_S256x5120 := by
  show StableHlo.after hostOps0 (fun b => m (c, b)) (Proc.devRef .tc main_v0) = _
  after_reads_simp
  rfl
theorem V_v1 : V m c main_v1 = shapeCast S1x5120 (m ((c : Thread nD τ).loc main_arg2)) shapeCasts_S5120_S1x5120 := by
  show StableHlo.after hostOps0 (fun b => m (c, b)) (Proc.devRef .tc main_v1) = _
  after_reads_simp
  rfl
theorem V_v2 : V m c main_v2 = shapeCast S1x10240 (m ((c : Thread nD τ).loc main_arg4)) shapeCasts_S10240_S1x10240 := by
  show StableHlo.after hostOps0 (fun b => m (c, b)) (Proc.devRef .tc main_v2) = _
  after_reads_simp
  rfl
theorem V_v3 : V m c main_v3 = shapeCast S1x160 (m ((c : Thread nD τ).loc main_arg5)) shapeCasts_S160_S1x160 := by
  show StableHlo.after hostOps0 (fun b => m (c, b)) (Proc.devRef .tc main_v3) = _
  after_reads_simp
  rfl
theorem V_v4 : V m c main_v4 = shapeCast S1x160 (m ((c : Thread nD τ).loc main_arg6)) shapeCasts_S160_S1x160 := by
  show StableHlo.after hostOps0 (fun b => m (c, b)) (Proc.devRef .tc main_v4) = _
  after_reads_simp
  rfl

/-! ### After the region -/

variable (G : (c : Dev nD) → (b : Ref sig .tc) → Buf (Elt F) ((c : Thread nD τ).loc b))

/-- The contents the lines after the region start from. -/
abbrev Vmid : Valuation τ sig (Elt F) := Pipeline.withArrays cfg0.spec c (Pipeline.withR (V0 m c) R0 c (G c)) fun w => (dats m G 0 c).arrAt w cfg0.N
theorem Vmid_of (b : Ref sig .tc) (hb : b ∈ R0) : Vmid m c G (Proc.devRef .tc b) = G c b :=
  (Pipeline.withArrays_of_ne _ c _ _ b (fun w => w.elim0)).trans (Pipeline.withR_of_mem _ _ _ _ b hb)

theorem W_v6 : Wend m G c main_v6 = transpose S2x128x48x160 [0, 3, 1, 2] (G c main_v5_0) transposes_S2x48x160x128_S2x128x48x160_0_3_1_2 := by
  rw [← Vmid_of m c G main_v5_0 (by decide)]
  show StableHlo.after hostOps1 (Vmid m c G) (Proc.devRef .tc main_v6) = _
  generalize Vmid m c G = Z
  after_reads_simp
theorem W_v7 : Wend m G c main_v7 = shapeCast S2x128x5120 (G c main_v5_1) shapeCasts_S256x5120_S2x128x5120 := by
  rw [← Vmid_of m c G main_v5_1 (by decide)]
  show StableHlo.after hostOps1 (Vmid m c G) (Proc.devRef .tc main_v7) = _
  generalize Vmid m c G = Z
  after_reads_simp
  rfl
theorem W_v5_2 : Wend m G c main_v5_2 = G c main_v5_2 := by
  rw [← Vmid_of m c G main_v5_2 (by decide)]
  show StableHlo.after hostOps1 (Vmid m c G) (Proc.devRef .tc main_v5_2) = _
  generalize Vmid m c G = Z
  after_reads_simp
theorem W_v8 : Wend m G c main_v8 = transpose S2x128x8x160 [0, 3, 1, 2] (G c main_v5_3) transposes_S2x8x160x128_S2x128x8x160_0_3_1_2 := by
  rw [← Vmid_of m c G main_v5_3 (by decide)]
  show StableHlo.after hostOps1 (Vmid m c G) (Proc.devRef .tc main_v8) = _
  generalize Vmid m c G = Z
  after_reads_simp
theorem W_v9 : Wend m G c main_v9 = transpose S2x128x8 [0, 2, 1] (G c main_v5_4) transposes_S2x8x128_S2x128x8_0_2_1 := by
  rw [← Vmid_of m c G main_v5_4 (by decide)]
  show StableHlo.after hostOps1 (Vmid m c G) (Proc.devRef .tc main_v9) = _
  generalize Vmid m c G = Z
  after_reads_simp
theorem W_v10 : Wend m G c main_v10 = transpose S2x128x8x160 [0, 3, 1, 2] (G c main_v5_5) transposes_S2x8x160x128_S2x128x8x160_0_3_1_2 := by
  rw [← Vmid_of m c G main_v5_5 (by decide)]
  show StableHlo.after hostOps1 (Vmid m c G) (Proc.devRef .tc main_v10) = _
  generalize Vmid m c G = Z
  after_reads_simp
theorem W_v11 : Wend m G c main_v11 = transpose S2x128x8 [0, 2, 1] (G c main_v5_6) transposes_S2x8x128_S2x128x8_0_2_1 := by
  rw [← Vmid_of m c G main_v5_6 (by decide)]
  show StableHlo.after hostOps1 (Vmid m c G) (Proc.devRef .tc main_v11) = _
  generalize Vmid m c G = Z
  after_reads_simp
end lines

end Cert.Kernel.Hand

end
-- ==== Proof.KEnd.lean ====
/-
  What the kernel's run leaves in the seven results, from the arguments, at an index.
-/
module

public import proofs.«01_k».proof.Proof.KHost

@[expose] public section

set_option maxRecDepth 65536

noncomputable section

namespace Cert.Kernel.Hand

open Cert.Kernel Cert.Kernel.Gen Cert.Quant
open Idealize.ShloMosaic Idealize.ShloMosaic.TcCoe Idealize.ShloMosaic.Tactic
open Idealize.SL.Sem

variable (m : (ℓ : Loc nD τ sig) → Buf (Elt Ideal) ℓ) (ρ : Dev nD → PrngReg)

/-! ### The rows the body reads, from the arguments -/

section casts
variable (v3 : Vec Ideal S2x128x5120 .bf16) (v5 : Vec Ideal S5120 .f32) (v10 : Vec Ideal S10240 .f32) (v1 : Vec Ideal S160 .f32)
theorem cast_x (b : Fin 2) (i : Fin 128) (j : Fin 5120) : shapeCast S256x5120 v3 shapeCasts_S2x128x5120_S256x5120 (ix2 (bt b i) j) = v3 (ix3 b i j) := by
  pointwise
  congr 2 <;> apply Fin.ext
  · show (128 * b.val + i.val) / 128 = b.val; omega
  · show (128 * b.val + i.val) % 128 = i.val; omega
theorem cast_n (j : Fin 5120) : shapeCast S1x5120 v5 shapeCasts_S5120_S1x5120 (ix2 0 j) = v5 (ix1 j) := by
  pointwise
theorem cast_s (j : Fin 10240) : shapeCast S1x10240 v10 shapeCasts_S10240_S1x10240 (ix2 0 j) = v10 (ix1 j) := by
  pointwise
theorem cast_h (j : Fin 160) : shapeCast S1x160 v1 shapeCasts_S160_S1x160 (ix2 0 j) = v1 (ix1 j) := by
  pointwise
end casts
section uncasts
theorem tr48 (v : Vec Ideal S2x48x160x128 .bf16) (b : Fin 2) (i : Fin 128) (h : Fin 48) (d : Fin 160) :
    transpose S2x128x48x160 [0, 3, 1, 2] v transposes_S2x48x160x128_S2x128x48x160_0_3_1_2 (ix4 b i h d) = v (ix4 b h d i) := by
  pointwise
theorem tr8 (v : Vec Ideal S2x8x160x128 .fp8e4m3) (b : Fin 2) (i : Fin 128) (h : Fin 8) (d : Fin 160) :
    transpose S2x128x8x160 [0, 3, 1, 2] v transposes_S2x8x160x128_S2x128x8x160_0_3_1_2 (ix4 b i h d) = v (ix4 b h d i) := by
  pointwise
theorem tr3 (v : Vec Ideal S2x8x128 .f32) (b : Fin 2) (i : Fin 128) (h : Fin 8) :
    transpose S2x128x8 [0, 2, 1] v transposes_S2x8x128_S2x128x8_0_2_1 (ix3 b i h) = v (ix3 b h i) := by
  pointwise
theorem cast_q (v : Vec Ideal S256x5120 .fp8e4m3) (b : Fin 2) (i : Fin 128) (j : Fin 5120) : shapeCast S2x128x5120 v shapeCasts_S256x5120_S2x128x5120 (ix3 b i j) = v (ix2 (bt b i) j) := by
  pointwise
  congr 2
  apply Fin.ext
  show b.val * 128 + i.val = 128 * b.val + i.val
  omega
end uncasts

variable (c : Dev nD)
/-- The arguments. -/
abbrev A0 : Vec Ideal S2x128x5120 .bf16 := m ((c : Thread nD τ).loc main_arg0)
abbrev A1 : Vec Ideal S2x128 .i32 := m ((c : Thread nD τ).loc main_arg1)
abbrev A2 : Vec Ideal S5120 .f32 := m ((c : Thread nD τ).loc main_arg2)
abbrev A3 : Vec Ideal S5120x10240 .fp8e4m3 := m ((c : Thread nD τ).loc main_arg3)
abbrev A4 : Vec Ideal S10240 .f32 := m ((c : Thread nD τ).loc main_arg4)
abbrev A5 : Vec Ideal S160 .f32 := m ((c : Thread nD τ).loc main_arg5)
abbrev A6 : Vec Ideal S160 .f32 := m ((c : Thread nD τ).loc main_arg6)

theorem xr_V (b : Fin 2) (i : Fin 128) : xr c (V m c main_v0) (bt b i) = fun j => A0 m c (ix3 b i j) := by
  funext j
  unfold xr
  rw [V_v0]
  exact cast_x _ b i j
theorem nr_V : nr c (V m c main_v1) = fun j => A2 m c (ix1 j) := by
  funext j
  unfold nr
  rw [V_v1]
  exact cast_n _ j
theorem wm_V : wm c (V m c main_arg3) = fun k n => A3 m c (ix2 k n) := by
  funext k n
  unfold wm
  rw [V_main_arg3]
theorem wsr_V : wsr c (V m c main_v2) = fun j => A4 m c (ix1 j) := by
  funext j
  unfold wsr
  rw [V_v2]
  exact cast_s _ j
theorem qn_V : qn c (V m c main_v3) = fun j => A5 m c (ix1 j) := by
  funext j
  unfold qn
  rw [V_v3]
  exact cast_h _ j
theorem kn_V : kn c (V m c main_v4) = fun j => A6 m c (ix1 j) := by
  funext j
  unfold kn
  rw [V_v4]
  exact cast_h _ j
theorem ps_V (b : Fin 2) (i : Fin 128) : ps c (V m c main_arg1) b i = A1 m c (ix2 b i) := by
  unfold ps
  rw [V_main_arg1]

/-- The results the body leaves. -/
def Gr (c : Dev nD) (b : Ref sig .tc) : Buf (Elt Ideal) ((c : Thread nD τ).loc b) :=
  if h : b = main_v5_0 then h ▸ res0 c (V m c main_v0) (V m c main_arg3) (V m c main_arg1) (V m c main_v1) (V m c main_v2) (V m c main_v3)
  else if h : b = main_v5_1 then h ▸ res1 c (V m c main_v0) (V m c main_v1)
  else if h : b = main_v5_2 then h ▸ res2 c (V m c main_v0) (V m c main_v1)
  else if h : b = main_v5_3 then h ▸ res3 c (V m c main_v0) (V m c main_arg3) (V m c main_arg1) (V m c main_v1) (V m c main_v2) (V m c main_v4)
  else if h : b = main_v5_4 then h ▸ res4 c (V m c main_v0) (V m c main_arg3) (V m c main_arg1) (V m c main_v1) (V m c main_v2) (V m c main_v4)
  else if h : b = main_v5_5 then h ▸ res5 c (V m c main_v0) (V m c main_arg3) (V m c main_v1) (V m c main_v2)
  else if h : b = main_v5_6 then h ▸ res6 c (V m c main_v0) (V m c main_arg3) (V m c main_v1) (V m c main_v2)
  else V m c b

theorem Gr0 : Gr m c main_v5_0 = res0 c (V m c main_v0) (V m c main_arg3) (V m c main_arg1) (V m c main_v1) (V m c main_v2) (V m c main_v3) := by
  unfold Gr
  rw [dif_pos rfl]
theorem Gr1 : Gr m c main_v5_1 = res1 c (V m c main_v0) (V m c main_v1) := by
  unfold Gr
  rw [dif_neg (by decide), dif_pos rfl]
theorem Gr2 : Gr m c main_v5_2 = res2 c (V m c main_v0) (V m c main_v1) := by
  unfold Gr
  rw [dif_neg (by decide), dif_neg (by decide), dif_pos rfl]
theorem Gr3 : Gr m c main_v5_3 = res3 c (V m c main_v0) (V m c main_arg3) (V m c main_arg1) (V m c main_v1) (V m c main_v2) (V m c main_v4) := by
  unfold Gr
  rw [dif_neg (by decide), dif_neg (by decide), dif_neg (by decide), dif_pos rfl]
theorem Gr4 : Gr m c main_v5_4 = res4 c (V m c main_v0) (V m c main_arg3) (V m c main_arg1) (V m c main_v1) (V m c main_v2) (V m c main_v4) := by
  unfold Gr
  rw [dif_neg (by decide), dif_neg (by decide), dif_neg (by decide), dif_neg (by decide), dif_pos rfl]
theorem Gr5 : Gr m c main_v5_5 = res5 c (V m c main_v0) (V m c main_arg3) (V m c main_v1) (V m c main_v2) := by
  unfold Gr
  rw [dif_neg (by decide), dif_neg (by decide), dif_neg (by decide), dif_neg (by decide), dif_neg (by decide), dif_pos rfl]
theorem Gr6 : Gr m c main_v5_6 = res6 c (V m c main_v0) (V m c main_arg3) (V m c main_v1) (V m c main_v2) := by
  unfold Gr
  rw [dif_neg (by decide), dif_neg (by decide), dif_neg (by decide), dif_neg (by decide), dif_neg (by decide), dif_neg (by decide), dif_pos rfl]

attribute [local irreducible] Gr

/-- The triple at contents equal to the results. -/
theorem body_eq (x0 : Vec Ideal S256x5120 .bf16) (x1 : Vec Ideal S5120x10240 .fp8e4m3) (x2 : Vec Ideal S2x128 .i32) (x3 : Vec Ideal S1x5120 .f32) (x4 : Vec Ideal S1x10240 .f32) (x5 x6 : Vec Ideal S1x160 .f32)
    (r0 g0 : Vec Ideal S2x48x160x128 .bf16) (r1 g1 : Vec Ideal S256x5120 .fp8e4m3) (r2 g2 : Vec Ideal S2x128 .f32) (r3 g3 : Vec Ideal S2x8x160x128 .fp8e4m3) (r4 g4 : Vec Ideal S2x8x128 .f32)
    (r5 g5 : Vec Ideal S2x8x160x128 .fp8e4m3) (r6 g6 : Vec Ideal S2x8x128 .f32)
    (h0 : g0 = res0 c x0 x1 x2 x3 x4 x5) (h1 : g1 = res1 c x0 x3) (h2 : g2 = res2 c x0 x3) (h3 : g3 = res3 c x0 x1 x2 x3 x4 x6) (h4 : g4 = res4 c x0 x1 x2 x3 x4 x6)
    (h5 : g5 = res5 c x0 x1 x3 x4) (h6 : g6 = res6 c x0 x1 x3 x4) :
    BodyTriple c x0 x1 x2 x3 x4 x5 x6 r0 r1 r2 r3 r4 r5 r6 g0 g1 g2 g3 g4 g5 g6 := by
  subst h0 h1 h2 h3 h4 h5 h6
  exact body_res c x0 x1 x2 x3 x4 x5 x6 r0 r1 r2 r3 r4 r5 r6

theorem Gr_body : BodyTriple c (V m c main_v0) (V m c main_arg3) (V m c main_arg1) (V m c main_v1) (V m c main_v2) (V m c main_v3) (V m c main_v4) (V m c main_v5_0) (V m c main_v5_1) (V m c main_v5_2) (V m c main_v5_3) (V m c main_v5_4) (V m c main_v5_5) (V m c main_v5_6)
    (Gr m c main_v5_0) (Gr m c main_v5_1) (Gr m c main_v5_2) (Gr m c main_v5_3) (Gr m c main_v5_4) (Gr m c main_v5_5) (Gr m c main_v5_6) :=
  body_eq c (V m c main_v0) (V m c main_arg3) (V m c main_arg1) (V m c main_v1) (V m c main_v2) (V m c main_v3) (V m c main_v4) (V m c main_v5_0) (Gr m c main_v5_0) (V m c main_v5_1) (Gr m c main_v5_1)
    (V m c main_v5_2) (Gr m c main_v5_2) (V m c main_v5_3) (Gr m c main_v5_3) (V m c main_v5_4) (Gr m c main_v5_4) (V m c main_v5_5) (Gr m c main_v5_5) (V m c main_v5_6) (Gr m c main_v5_6)
    (Gr0 m c) (Gr1 m c) (Gr2 m c) (Gr3 m c) (Gr4 m c) (Gr5 m c) (Gr6 m c)

/-- The run: the results at the contents the host lines leave, the arguments unchanged. -/
theorem run_res : θ_run defs (onTc (τ := τ) (main (F := Ideal))) ⟨m, fun _ => 0, ρ⟩ (fun r => ∀ c : Dev nD,
      r.2.mem ((c.tc : Thread nD τ).loc main_v6) = Wend m (Gr m) c main_v6
      ∧ r.2.mem ((c.tc : Thread nD τ).loc main_v7) = Wend m (Gr m) c main_v7
      ∧ r.2.mem ((c.tc : Thread nD τ).loc main_v5_2) = Wend m (Gr m) c main_v5_2
      ∧ r.2.mem ((c.tc : Thread nD τ).loc main_v8) = Wend m (Gr m) c main_v8
      ∧ r.2.mem ((c.tc : Thread nD τ).loc main_v9) = Wend m (Gr m) c main_v9
      ∧ r.2.mem ((c.tc : Thread nD τ).loc main_v10) = Wend m (Gr m) c main_v10
      ∧ r.2.mem ((c.tc : Thread nD τ).loc main_v11) = Wend m (Gr m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c main_v6 (Pipeline.mem_restRefs_of main_v6 (by decide) (by decide)),
      h.1 c main_v7 (Pipeline.mem_restRefs_of main_v7 (by decide) (by decide)),
      h.1 c main_v5_2 (Pipeline.mem_restRefs_of main_v5_2 (by decide) (by decide)),
      h.1 c main_v8 (Pipeline.mem_restRefs_of main_v8 (by decide) (by decide)),
      h.1 c main_v9 (Pipeline.mem_restRefs_of main_v9 (by decide) (by decide)),
      h.1 c main_v10 (Pipeline.mem_restRefs_of main_v10 (by decide) (by decide)),
      h.1 c main_v11 (Pipeline.mem_restRefs_of main_v11 (by decide) (by decide)),
      (h.1 c main_arg0 (Pipeline.mem_restRefs_of main_arg0 (by decide) (by decide))).trans (Wend_main_arg0 m (Gr m) c),
      (h.1 c main_arg1 (Pipeline.mem_restRefs_of main_arg1 (by decide) (by decide))).trans (Wend_main_arg1 m (Gr m) c),
      (h.1 c main_arg2 (Pipeline.mem_restRefs_of main_arg2 (by decide) (by decide))).trans (Wend_main_arg2 m (Gr m) c),
      (h.1 c main_arg3 (Pipeline.mem_restRefs_of main_arg3 (by decide) (by decide))).trans (Wend_main_arg3 m (Gr m) c),
      (h.1 c main_arg4 (Pipeline.mem_restRefs_of main_arg4 (by decide) (by decide))).trans (Wend_main_arg4 m (Gr m) c),
      (h.1 c main_arg5 (Pipeline.mem_restRefs_of main_arg5 (by decide) (by decide))).trans (Wend_main_arg5 m (Gr m) c),
      (h.1 c main_arg6 (Pipeline.mem_restRefs_of main_arg6 (by decide) (by decide))).trans (Wend_main_arg6 m (Gr m) c)⟩) (run_main m ρ (Gr m) (fun c => Gr_body m c))

/-! ### The results at an index -/

section ends
variable (b : Fin 2) (i : Fin 128)
/-- The heads of a token, from the arguments. -/
abbrev ha (h : Fin 64) : Fin 160 → EReal :=
  yh (fun j => A0 m c (ix3 b i j)) (fun j => A2 m c (ix1 j)) (fun k n => A3 m c (ix2 k n)) (fun n => A4 m c (ix1 n)) h

theorem hd_V (h : Fin 64) : hd c (V m c main_v0) (V m c main_arg3) (V m c main_v1) (V m c main_v2) b h i = ha m c b i h := by
  unfold hd
  rw [xr_V, nr_V, wm_V, wsr_V]
theorem qv_V (h : Fin 48) : qv c (V m c main_v0) (V m c main_arg3) (V m c main_arg1) (V m c main_v1) (V m c main_v2) (V m c main_v3) b h i
    = rot (nrm (ha m c b i ⟨h.val, by omega⟩) (fun d => A5 m c (ix1 d))) (A1 m c (ix2 b i)) := by
  funext d
  unfold qv
  rw [hd_V, qn_V, ps_V]
theorem kv_V (h : Fin 8) : kv c (V m c main_v0) (V m c main_arg3) (V m c main_arg1) (V m c main_v1) (V m c main_v2) (V m c main_v4) b h i
    = rot (nrm (ha m c b i ⟨48 + h.val, by omega⟩) (fun d => A6 m c (ix1 d))) (A1 m c (ix2 b i)) := by
  funext d
  unfold kv
  rw [hd_V, kn_V, ps_V]
theorem vv_V (h : Fin 8) : vv c (V m c main_v0) (V m c main_arg3) (V m c main_v1) (V m c main_v2) b h i = ha m c b i ⟨56 + h.val, by omega⟩ := by
  funext d
  unfold vv
  rw [hd_V]

theorem end6 (h : Fin 48) (d : Fin 160) : Wend m (Gr m) c main_v6 (ix4 (n0 := 2) (n1 := 128) (n2 := 48) (n3 := 160) b i h d)
    = rot (nrm (ha m c b i ⟨h.val, by omega⟩) (fun d => A5 m c (ix1 d))) (A1 m c (ix2 b i)) d := by
  rw [← qv_V, W_v6, Gr0]
  exact tr48 _ b i h d
theorem end7 (j : Fin 5120) : Wend m (Gr m) c main_v7 (ix3 (n0 := 2) (n1 := 128) (n2 := 5120) b i j) = hq (fun j => A0 m c (ix3 b i j)) (fun j => A2 m c (ix1 j)) j := by
  rw [← xr_V, ← nr_V, W_v7, Gr1]
  exact cast_q _ b i j
theorem res2_at (x0 : Vec Ideal S256x5120 .bf16) (x3 : Vec Ideal S1x5120 .f32) : res2 c x0 x3 (ix2 b i) = hs (xr c x0 (bt b i)) (nr c x3) := by
  unfold res2
  rfl
theorem end2 : Wend m (Gr m) c main_v5_2 (ix2 (n0 := 2) (n1 := 128) b i) = hs (fun j => A0 m c (ix3 b i j)) (fun j => A2 m c (ix1 j)) := by
  refine (congrFun (W_v5_2 m c (Gr m)) (ix2 (n0 := 2) (n1 := 128) b i)).trans ?_
  refine (congrFun (Gr2 m c) (ix2 (n0 := 2) (n1 := 128) b i)).trans ?_
  refine (res2_at c b i (V m c main_v0) (V m c main_v1)).trans ?_
  rw [xr_V, nr_V]
theorem end8 (h : Fin 8) (d : Fin 160) : Wend m (Gr m) c main_v8 (ix4 (n0 := 2) (n1 := 128) (n2 := 8) (n3 := 160) b i h d)
    = code (rot (nrm (ha m c b i ⟨48 + h.val, by omega⟩) (fun d => A6 m c (ix1 d))) (A1 m c (ix2 b i)) d)
        (expo (amax (rot (nrm (ha m c b i ⟨48 + h.val, by omega⟩) (fun d => A6 m c (ix1 d))) (A1 m c (ix2 b i))))) := by
  rw [← kv_V, W_v8, Gr3]
  exact tr8 _ b i h d
theorem end9 (h : Fin 8) : Wend m (Gr m) c main_v9 (ix3 (n0 := 2) (n1 := 128) (n2 := 8) b i h)
    = Ideal.exp2 (expo (amax (rot (nrm (ha m c b i ⟨48 + h.val, by omega⟩) (fun d => A6 m c (ix1 d))) (A1 m c (ix2 b i))))) := by
  rw [← kv_V, W_v9, Gr4]
  exact tr3 _ b i h
theorem end10 (h : Fin 8) (d : Fin 160) : Wend m (Gr m) c main_v10 (ix4 (n0 := 2) (n1 := 128) (n2 := 8) (n3 := 160) b i h d)
    = code (ha m c b i ⟨56 + h.val, by omega⟩ d) (expo (amax (ha m c b i ⟨56 + h.val, by omega⟩))) := by
  rw [← vv_V, W_v10, Gr5]
  exact tr8 _ b i h d
theorem end11 (h : Fin 8) : Wend m (Gr m) c main_v11 (ix3 (n0 := 2) (n1 := 128) (n2 := 8) b i h) = Ideal.exp2 (expo (amax (ha m c b i ⟨56 + h.val, by omega⟩))) := by
  rw [← vv_V, W_v11, Gr6]
  exact tr3 _ b i h
end ends

end Cert.Kernel.Hand

end
-- ==== Proof.RefRun.lean ====
/-
  The reference run read off: one grid point, every window its whole array, so each result array ends at the
  body's payload of the argument arrays (`G7` … `G13`), the arguments unchanged.
-/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_5) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_6) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x128x5120.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 128 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2x128.Idx) : ((cfg0.win 1).blk t).view.emb j = j := by
  obtain ⟨e0, e1⟩ := idx_zero1 t
  funext a; apply Fin.ext
  match a with
  | ⟨0, _⟩ => show win0_1.index t (0 : Fin 2) * 2 + 1 * (j 0).val = (j 0).val; omega
  | ⟨1, _⟩ => show win0_1.index t (1 : Fin 2) * 128 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S5120.Idx) : ((cfg0.win 2).blk t).view.emb j = j := by
  have e0 := idx_zero2 t
  funext a; apply Fin.ext
  match a with
  | ⟨0, _⟩ => show win0_2.index t (0 : Fin 1) * 5120 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S5120x10240.Idx) : ((cfg0.win 3).blk t).view.emb j = j := by
  obtain ⟨e0, e1⟩ := idx_zero3 t
  funext a; apply Fin.ext
  match a with
  | ⟨0, _⟩ => show win0_3.index t (0 : Fin 2) * 5120 + 1 * (j 0).val = (j 0).val; omega
  | ⟨1, _⟩ => show win0_3.index t (1 : Fin 2) * 10240 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S10240.Idx) : ((cfg0.win 4).blk t).view.emb j = j := by
  have e0 := idx_zero4 t
  funext a; apply Fin.ext
  match a with
  | ⟨0, _⟩ => show win0_4.index t (0 : Fin 1) * 10240 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S160.Idx) : ((cfg0.win 5).blk t).view.emb j = j := by
  have e0 := idx_zero5 t
  funext a; apply Fin.ext
  match a with
  | ⟨0, _⟩ => show win0_5.index t (0 : Fin 1) * 160 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S160.Idx) : ((cfg0.win 6).blk t).view.emb j = j := by
  have e0 := idx_zero6 t
  funext a; apply Fin.ext
  match a with
  | ⟨0, _⟩ => show win0_6.index t (0 : Fin 1) * 160 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S2x128x48x160.Idx) : ((cfg0.win 7).blk t).view.emb j = j := by
  obtain ⟨e0, e1, e2, e3⟩ := idx_zero7 t
  funext a; apply Fin.ext
  match a with
  | ⟨0, _⟩ => show win0_7.index t (0 : Fin 4) * 2 + 1 * (j 0).val = (j 0).val; omega
  | ⟨1, _⟩ => show win0_7.index t (1 : Fin 4) * 128 + 1 * (j 1).val = (j 1).val; omega
  | ⟨2, _⟩ => show win0_7.index t (2 : Fin 4) * 48 + 1 * (j 2).val = (j 2).val; omega
  | ⟨3, _⟩ => show win0_7.index t (3 : Fin 4) * 160 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S2x128x5120.Idx) : ((cfg0.win 8).blk t).view.emb j = j := by
  obtain ⟨e0, e1, e2⟩ := idx_zero8 t
  funext a; apply Fin.ext
  match a with
  | ⟨0, _⟩ => show win0_8.index t (0 : Fin 3) * 2 + 1 * (j 0).val = (j 0).val; omega
  | ⟨1, _⟩ => show win0_8.index t (1 : Fin 3) * 128 + 1 * (j 1).val = (j 1).val; omega
  | ⟨2, _⟩ => show win0_8.index t (2 : Fin 3) * 5120 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2x128.Idx) : ((cfg0.win 9).blk t).view.emb j = j := by
  obtain ⟨e0, e1⟩ := idx_zero9 t
  funext a; apply Fin.ext
  match a with
  | ⟨0, _⟩ => show win0_9.index t (0 : Fin 2) * 2 + 1 * (j 0).val = (j 0).val; omega
  | ⟨1, _⟩ => show win0_9.index t (1 : Fin 2) * 128 + 1 * (j 1).val = (j 1).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S2x128x8x160.Idx) : ((cfg0.win 10).blk t).view.emb j = j := by
  obtain ⟨e0, e1, e2, e3⟩ := idx_zero10 t
  funext a; apply Fin.ext
  match a with
  | ⟨0, _⟩ => show win0_10.index t (0 : Fin 4) * 2 + 1 * (j 0).val = (j 0).val; omega
  | ⟨1, _⟩ => show win0_10.index t (1 : Fin 4) * 128 + 1 * (j 1).val = (j 1).val; omega
  | ⟨2, _⟩ => show win0_10.index t (2 : Fin 4) * 8 + 1 * (j 2).val = (j 2).val; omega
  | ⟨3, _⟩ => show win0_10.index t (3 : Fin 4) * 160 + 1 * (j 3).val = (j 3).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S2x128x8.Idx) : ((cfg0.win 11).blk t).view.emb j = j := by
  obtain ⟨e0, e1, e2⟩ := idx_zero11 t
  funext a; apply Fin.ext
  match a with
  | ⟨0, _⟩ => show win0_11.index t (0 : Fin 3) * 2 + 1 * (j 0).val = (j 0).val; omega
  | ⟨1, _⟩ => show win0_11.index t (1 : Fin 3) * 128 + 1 * (j 1).val = (j 1).val; omega
  | ⟨2, _⟩ => show win0_11.index t (2 : Fin 3) * 8 + 1 * (j 2).val = (j 2).val; omega

theorem hz12 : (![0, 0, 0, 0] : Fin 4 → Nat) = fun _ => 0 := funext fun a => by fin_cases a <;> rfl

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S2x128x8x160.Idx) : ((cfg0.win 12).blk t).view.emb j = j := by
  obtain ⟨e0, e1, e2, e3⟩ := idx_zero12 t
  funext a; apply Fin.ext
  match a with
  | ⟨0, _⟩ => show win0_12.index t (0 : Fin 4) * 2 + 1 * (j 0).val = (j 0).val; omega
  | ⟨1, _⟩ => show win0_12.index t (1 : Fin 4) * 128 + 1 * (j 1).val = (j 1).val; omega
  | ⟨2, _⟩ => show win0_12.index t (2 : Fin 4) * 8 + 1 * (j 2).val = (j 2).val; omega
  | ⟨3, _⟩ => show win0_12.index t (3 : Fin 4) * 160 + 1 * (j 3).val = (j 3).val; omega

theorem hz13 : (![0, 0, 0] : Fin 3 → Nat) = fun _ => 0 := funext fun a => by fin_cases a <;> rfl

/-- Window 13's block index at the one point is zero on every axis. -/
theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

/-- An index of window 13's block is the same index of its array. -/
theorem emb13 (t : Fin cfg0.N) (j : S2x128x8.Idx) : ((cfg0.win 13).blk t).view.emb j = j := by
  obtain ⟨e0, e1, e2⟩ := idx_zero13 t
  funext a; apply Fin.ext
  match a with
  | ⟨0, _⟩ => show win0_13.index t (0 : Fin 3) * 2 + 1 * (j 0).val = (j 0).val; omega
  | ⟨1, _⟩ => show win0_13.index t (1 : Fin 3) * 128 + 1 * (j 1).val = (j 1).val; omega
  | ⟨2, _⟩ => show win0_13.index t (2 : Fin 3) * 8 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x48x160 .bf16 :=
  k0_pay22 (k0_pay16 (k0_pay10 (k0_pay31 a0 a1 a2 a3 a4 a5 a6) (k0_pay32 a0 a1 a2 a3 a4 a5 a6) (Scalar.ofBits .f32 0xC3E00000#32) (Scalar.ofBits .f32 0x43E00000#32) a3 a4 a5) a1)

/-- A load of the whole of a block reads the block, and the one store through the whole rectangle leaves its payload. -/
theorem out7_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_7 (F := F) a0 a1 a2 a3 a4 a5 a6 = G7 a0 a1 a2 a3 a4 a5 a6 := by
  unfold out0_7
  rw [View.canon_unit_zero hz7, View.ld_unit_zero (S := S5120x10240) hz3 _ a3, View.ld_unit_zero (S := S10240) hz4 _ a4, View.ld_unit_zero (S := S160) hz5 _ a5, View.ld_unit_zero (S := S2x128) hz1 _ a1]

/-- Cutting the point's block out of `X` and reading `X` through the block's view give the same. -/
theorem cut7_eq (t : Fin cfg0.N) (X : Vec F S2x128x48x160 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S2x128x48x160.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x5120 .fp8e4m3 :=
  k0_pay5 (k0_pay32 a0 a1 a2 a3 a4 a5 a6) (Scalar.ofBits .f32 0xC3E00000#32) (Scalar.ofBits .f32 0x43E00000#32)

/-- The one store through the whole rectangle leaves its payload. -/
theorem out8_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S2x128x5120 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S2x128x5120.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128 .f32 :=
  k0_pay6 (k0_pay31 a0 a1 a2 a3 a4 a5 a6)

/-- The one store through the whole rectangle leaves its payload. -/
theorem out9_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S2x128 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S2x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x8x160 .fp8e4m3 :=
  k0_pay24 (k0_pay36 a0 a1 a2 a3 a4 a5 a6) (k0_pay37 a0 a1 a2 a3 a4 a5 a6) (k0_pay38 a0 a1 a2 a3 a4 a5 a6) (k0_pay39 a0 a1 a2 a3 a4 a5 a6)

/-- The one store through the whole rectangle leaves its payload. -/
theorem out10_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_10 (F := F) a0 a1 a2 a3 a4 a5 a6 = G10 a0 a1 a2 a3 a4 a5 a6 := by
  unfold out0_10
  rw [View.canon_unit_zero hz10]

/-- Cutting the point's block out of `X` and reading `X` through the block's view give the same. -/
theorem cut10_eq (t : Fin cfg0.N) (X : Vec F S2x128x8x160 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S2x128x8x160.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ### Output window 11: the array after the run -/

/-- What the window's array ends holding: `out0_11` applied to the argument arrays in place of the input blocks (a value that the
    frame states apart, `kK_payN a…`, keeps its loads inside its own definition). -/
abbrev G11 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x8 .f32 :=
  k0_pay25 (k0_pay36 a0 a1 a2 a3 a4 a5 a6) (k0_pay37 a0 a1 a2 a3 a4 a5 a6) (k0_pay38 a0 a1 a2 a3 a4 a5 a6) (k0_pay39 a0 a1 a2 a3 a4 a5 a6)

/-- The one store through the whole rectangle leaves its payload. -/
theorem out11_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_11 (F := F) a0 a1 a2 a3 a4 a5 a6 = G11 a0 a1 a2 a3 a4 a5 a6 := by
  unfold out0_11
  rw [View.canon_unit_zero hz11]

/-- Cutting the point's block out of `X` and reading `X` through the block's view give the same. -/
theorem cut11_eq (t : Fin cfg0.N) (X : Vec F S2x128x8 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6)) := by
  show (cfg0.win 11).cut (grid0.coords t) ((dats m 0 c).after 11 t) = _
  rw [after0_11, out11_eq, iblk0_eq, iblk1_eq, iblk2_eq, iblk3_eq, iblk4_eq, iblk5_eq, iblk6_eq]
  exact cut11_eq t _

/-- Every index of the array is in the point's block. -/
theorem covered11 (i : S2x128x8.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 11 (G11 (V m c main_arg0) (V m c main_arg1) (V m c main_arg2) (V m c main_arg3) (V m c main_arg4) (V m c main_arg5) (V m c main_arg6)) (fun t _ => flushed11_eq m c t) covered11).trans (by rw [V_main_arg0, V_main_arg1, V_main_arg2, V_main_arg3, V_main_arg4, V_main_arg5, V_main_arg6])

/-! ### Output window 12: the array after the run -/

/-- What the window's array ends holding: `out0_12` applied to the argument arrays in place of the input blocks (a value that the
    frame states apart, `kK_payN a…`, keeps its loads inside its own definition). -/
abbrev G12 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x8x160 .fp8e4m3 :=
  k0_pay29 (k0_pay34 a0 a1 a2 a3 a4 a5 a6) (k0_pay40 a0 a1 a2 a3 a4 a5 a6) (k0_pay41 a0 a1 a2 a3 a4 a5 a6)

/-- The one store through the whole rectangle leaves its payload. -/
theorem out12_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_12 (F := F) a0 a1 a2 a3 a4 a5 a6 = G12 a0 a1 a2 a3 a4 a5 a6 := by
  unfold out0_12
  rw [View.canon_unit_zero hz12]

/-- Cutting the point's block out of `X` and reading `X` through the block's view give the same. -/
theorem cut12_eq (t : Fin cfg0.N) (X : Vec F S2x128x8x160 .fp8e4m3) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6)) := by
  show (cfg0.win 12).cut (grid0.coords t) ((dats m 0 c).after 12 t) = _
  rw [after0_12, out12_eq, iblk0_eq, iblk1_eq, iblk2_eq, iblk3_eq, iblk4_eq, iblk5_eq, iblk6_eq]
  exact cut12_eq t _

/-- Every index of the array is in the point's block. -/
theorem covered12 (i : S2x128x8x160.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 12 (G12 (V m c main_arg0) (V m c main_arg1) (V m c main_arg2) (V m c main_arg3) (V m c main_arg4) (V m c main_arg5) (V m c main_arg6)) (fun t _ => flushed12_eq m c t) covered12).trans (by rw [V_main_arg0, V_main_arg1, V_main_arg2, V_main_arg3, V_main_arg4, V_main_arg5, V_main_arg6])

/-! ### Output window 13: the array after the run -/

/-- What the window's array ends holding: `out0_13` applied to the argument arrays in place of the input blocks (a value that the
    frame states apart, `kK_payN a…`, keeps its loads inside its own definition). -/
abbrev G13 (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : Vec F S2x128x8 .f32 :=
  k0_pay30 (k0_pay40 a0 a1 a2 a3 a4 a5 a6) (k0_pay41 a0 a1 a2 a3 a4 a5 a6)

/-- The one store through the whole rectangle leaves its payload. -/
theorem out13_eq (a0 : Vec F S2x128x5120 .bf16) (a1 : Vec F S2x128 .i32) (a2 : Vec F S5120 .f32) (a3 : Vec F S5120x10240 .fp8e4m3) (a4 : Vec F S10240 .f32) (a5 : Vec F S160 .f32) (a6 : Vec F S160 .f32) : out0_13 (F := F) a0 a1 a2 a3 a4 a5 a6 = G13 a0 a1 a2 a3 a4 a5 a6 := by
  unfold out0_13
  rw [View.canon_unit_zero hz13]

/-- Cutting the point's block out of `X` and reading `X` through the block's view give the same. -/
theorem cut13_eq (t : Fin cfg0.N) (X : Vec F S2x128x8 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6)) := by
  show (cfg0.win 13).cut (grid0.coords t) ((dats m 0 c).after 13 t) = _
  rw [after0_13, out13_eq, iblk0_eq, iblk1_eq, iblk2_eq, iblk3_eq, iblk4_eq, iblk5_eq, iblk6_eq]
  exact cut13_eq t _

/-- Every index of the array is in the point's block. -/
theorem covered13 (i : S2x128x8.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 13 (G13 (V m c main_arg0) (V m c main_arg1) (V m c main_arg2) (V m c main_arg3) (V m c main_arg4) (V m c main_arg5) (V m c main_arg6)) (fun t _ => flushed13_eq m c t) covered13).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_5) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_6) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Hand

end
-- ==== Proof.RefTok.lean ====
/-
  The reference's codes, scales and products of the tokens at an index.
-/
module

public import proofs.«01_k».proof.Proof.RefRun
public import proofs.«01_k».proof.Proof.Math

@[expose] public section

set_option maxRecDepth 65536

noncomputable section

namespace Cert.ReferenceIdeal.Hand

open Cert.ReferenceIdeal Cert.ReferenceIdeal.Gen Cert.Quant
open Idealize.ShloMosaic Idealize.ShloMosaic.TcCoe Idealize.ShloMosaic.Tactic

theorem exp2_eq (x : Ideal .f32) : FloatOps.exp2 (F := Ideal) (φ := .f32) x = Ideal.exp2 x := Eq.trans rfl rfl
theorem absf_eq (x : Ideal .f32) : FloatOps.absf (F := Ideal) (φ := .f32) x = max x (-x) := Eq.trans rfl rfl
theorem expo_def (a : EReal) : (if a = 0 then 0 else min (Ideal.ofBits .f32 0x42FC0000#32) (max (Ideal.ofBits .f32 0xC2FC0000#32)
    (Ideal.liftRound Int.floor (Ideal.div (Ideal.log (a * kap)) (Ideal.log (Ideal.ofBits .f32 0x40000000#32))) + 1))) = expo a := rfl
theorem code_def (v e : EReal) : min (Ideal.ofBits .f32 0x43E00000#32) (max (Ideal.ofBits .f32 0xC3E00000#32) (v * Ideal.exp2 (0 - e))) = code v e := rfl
theorem nrm_def (t w : Fin 160 → EReal) (d : Fin 160) :
    t d * Ideal.rsqrt (Ideal.div (∑ k, t k * t k) (Ideal.ofBits .f32 0x43200000#32) + Ideal.ofBits .f32 0x358637BD#32) * w d = nrm t w d := rfl
theorem hx_def (t w : Fin 5120 → EReal) (d : Fin 5120) :
    t d * Ideal.rsqrt (Ideal.div (∑ k, t k * t k) (Ideal.ofBits .f32 0x45A00000#32) + Ideal.ofBits .f32 0x358637BD#32) * w d = hx t w d := rfl

section tokens
attribute [local irreducible] k0_pay1 k0_pay2 k0_pay4 k0_pay5 k0_pay6
variable (v0 : Vec Ideal S2x128x5120 .bf16) (v2 : Vec Ideal S5120 .f32) (b : Fin 2) (i : Fin 128)

attribute [local semireducible] k0_pay1 in
theorem pay1_at (j : Fin 5120) : k0_pay1 v0 v2 (ix3 b i j) = hx (fun j => v0 (ix3 b i j)) (fun j => v2 (ix1 j)) j := by
  rw [← hx_def]
  pointwise [k0_pay1]

theorem absmax_at (y : FVec Ideal S2x128x5120 .f32) : multiReduction .maximumf [2] S2x128 (absf y) 0xFF800000#32 reduces_S2x128x5120_S2x128 (.inl rfl) rfl (ix2 b i)
    = amax fun k => y (ix3 b i k) := by
  unfold amax
  pointwise
  simp only [absf_eq]

/-- The exponents of rows whose largest magnitudes are `m`. -/
def expoVec (m : FVec Ideal S2x128 .f32) : FVec Ideal S2x128x1 .f32 :=
  have v18 : FVec Ideal S2x128x1 .f32 := shapeCast S2x128x1 m shapeCasts_S2x128_S2x128x1
  select (cmpf .oeq v18 (broadcast S2x128x1 (Scalar.ofBits .f32 0x00000000#32))) (broadcast S2x128x1 (Scalar.ofBits .f32 0x00000000#32))
    (minimumf (broadcast S2x128x1 (Scalar.ofBits .f32 0x42FC0000#32)) (maximumf (broadcast S2x128x1 (Scalar.ofBits .f32 0xC2FC0000#32))
      (addf (floor (divf (log (mulf v18 (broadcast S2x128x1 (Scalar.ofBits .f32 0x3B124925#32)))) (log (broadcast S2x128x1 (Scalar.ofBits .f32 0x40000000#32)))))
        (broadcast S2x128x1 (Scalar.ofBits .f32 0x3F800000#32)))))
theorem expoVec_at (m : FVec Ideal S2x128 .f32) : expoVec m (ix3 b i 0) = expo (m (ix2 b i)) := by
  rw [← expo_def]
  pointwise [expoVec]

attribute [local semireducible] k0_pay2 in
theorem pay2_eq : k0_pay2 v0 v2 = expoVec (multiReduction .maximumf [2] S2x128 (absf (k0_pay1 v0 v2)) 0xFF800000#32 reduces_S2x128x5120_S2x128 (.inl rfl) rfl) := by
  unfold k0_pay2 expoVec
  with_reducible rfl
theorem pay2_at : k0_pay2 v0 v2 (ix3 b i 0) = he (fun j => v0 (ix3 b i j)) (fun j => v2 (ix1 j)) := by
  rw [pay2_eq, expoVec_at, absmax_at, he]
  simp only [pay1_at v0 v2 b i]

theorem exp2_vec (e : FVec Ideal S2x128x1 .f32) : exp2 e (ix3 b i 0) = Ideal.exp2 (e (ix3 b i 0)) := Eq.trans rfl rfl
theorem pay3_eq : k0_pay3 v0 v2 = exp2 (k0_pay2 v0 v2) := by
  unfold k0_pay3
  with_reducible rfl
theorem pay3_at : k0_pay3 v0 v2 (ix3 b i 0) = hs (fun j => v0 (ix3 b i j)) (fun j => v2 (ix1 j)) := by
  rw [pay3_eq, exp2_vec, pay2_at, hs]

/-- Rows divided by their scales. -/
def quotVec (y : FVec Ideal S2x128x5120 .f32) (e : FVec Ideal S2x128x1 .f32) : FVec Ideal S2x128x5120 .f32 :=
  mulf y (broadcastTo S2x128x5120 (exp2 (subf (broadcast S2x128x1 (Scalar.ofBits .f32 0x00000000#32)) e)) broadcasts_S2x128x1_S2x128x5120)
theorem quotVec_at (y : FVec Ideal S2x128x5120 .f32) (e : FVec Ideal S2x128x1 .f32) (j : Fin 5120) :
    quotVec y e (ix3 b i j) = y (ix3 b i j) * Ideal.exp2 (0 - e (ix3 b i 0)) := by
  pointwise [quotVec]
  rw [exp2_eq]
attribute [local semireducible] k0_pay4 in
theorem pay4_eq : k0_pay4 v0 v2 = quotVec (k0_pay1 v0 v2) (k0_pay2 v0 v2) := by
  unfold k0_pay4 quotVec
  with_reducible rfl
theorem pay4_at (j : Fin 5120) : k0_pay4 v0 v2 (ix3 b i j) = hx (fun j => v0 (ix3 b i j)) (fun j => v2 (ix1 j)) j * Ideal.exp2 (0 - he (fun j => v0 (ix3 b i j)) (fun j => v2 (ix1 j))) := by
  rw [pay4_eq, quotVec_at, pay2_at, pay1_at]

attribute [local semireducible] k0_pay5 in
theorem pay5_at (v41 : FVec Ideal S2x128x5120 .f32) (j : Fin 5120) : k0_pay5 v41 (Scalar.ofBits .f32 0xC3E00000#32) (Scalar.ofBits .f32 0x43E00000#32) (ix3 b i j)
    = min (Ideal.ofBits .f32 0x43E00000#32) (max (Ideal.ofBits .f32 0xC3E00000#32) (v41 (ix3 b i j))) := by
  pointwise [k0_pay5]

attribute [local semireducible] k0_pay6 in
theorem pay6_at (v36 : FVec Ideal S2x128x1 .f32) : k0_pay6 v36 (ix2 b i) = v36 (ix3 b i 0) := by
  pointwise [k0_pay6]

theorem pay7_at (v36 : FVec Ideal S2x128x1 .f32) (v41 : FVec Ideal S2x128x5120 .f32) (c14 c15 : Ideal .f32) (v51 : Vec Ideal S5120x10240 .fp8e4m3) (v57 : Vec Ideal S10240 .f32) (n : Fin 10240) :
    k0_pay7 v36 v41 c14 c15 v51 v57 (ix3 b i n) = (∑ k, k0_pay5 v41 c14 c15 (ix3 b i k) * v51 (ix2 k n)) * k0_pay6 v36 (ix2 b i) * v57 (ix1 n) := by
  pointwise [k0_pay7]

/-- The codes of the tokens. -/
theorem codes_at (j : Fin 5120) : k0_pay5 (k0_pay4 v0 v2) (Scalar.ofBits .f32 0xC3E00000#32) (Scalar.ofBits .f32 0x43E00000#32) (ix3 b i j)
    = hq (fun j => v0 (ix3 b i j)) (fun j => v2 (ix1 j)) j := by
  rw [pay5_at, pay4_at, code_def]
  unfold hq
  rfl
/-- Their scales. -/
theorem scales_at : k0_pay6 (k0_pay3 v0 v2) (ix2 b i) = hs (fun j => v0 (ix3 b i j)) (fun j => v2 (ix1 j)) := by
  rw [pay6_at, pay3_at]
/-- Their products with the weights. -/
theorem prods_at (v51 : Vec Ideal S5120x10240 .fp8e4m3) (v57 : Vec Ideal S10240 .f32) (n : Fin 10240) :
    k0_pay7 (k0_pay3 v0 v2) (k0_pay4 v0 v2) (Scalar.ofBits .f32 0xC3E00000#32) (Scalar.ofBits .f32 0x43E00000#32) v51 v57 (ix3 b i n)
      = yv (fun j => v0 (ix3 b i j)) (fun j => v2 (ix1 j)) (fun k n => v51 (ix2 k n)) (fun n => v57 (ix1 n)) n := by
  rw [pay7_at, scales_at]
  simp only [codes_at]
  unfold yv
  rfl
end tokens

end Cert.ReferenceIdeal.Hand

end
-- ==== Proof.RefHead.lean ====
/-
  The reference's heads at an index.
-/
module

public import proofs.«01_k».proof.Proof.RefTok
public import proofs.«01_k».proof.Proof.Math

@[expose] public section

set_option maxRecDepth 65536

noncomputable section

namespace Cert.ReferenceIdeal.Hand

open Cert.ReferenceIdeal Cert.ReferenceIdeal.Gen Cert.Quant
open Idealize.ShloMosaic Idealize.ShloMosaic.TcCoe Idealize.ShloMosaic.Tactic

section heads
attribute [local irreducible] k0_pay7 k0_pay8 k0_pay11 k0_pay12 k0_pay13
variable (v36 : FVec Ideal S2x128x1 .f32) (v41 : FVec Ideal S2x128x5120 .f32) (c14 c15 : Ideal .f32) (v51 : Vec Ideal S5120x10240 .fp8e4m3) (v57 : Vec Ideal S10240 .f32)
  (v81 : Vec Ideal S160 .f32) (v105 : Vec Ideal S2x128 .i32) (b : Fin 2) (i : Fin 128)

attribute [local semireducible] k0_pay8 in
theorem pay8_at (h : Fin 8) (d : Fin 160) : k0_pay8 v36 v41 c14 c15 v51 v57 (ix4 b i h d) = k0_pay7 v36 v41 c14 c15 v51 v57 (ix3 b i ⟨(48 + h.val) * 160 + d.val, by omega⟩) := by
  pointwise [k0_pay8]
  congr 2
  apply Fin.ext
  show 7680 + (h.val * 160 + d.val) = (48 + h.val) * 160 + d.val
  omega
theorem pay9_at (h : Fin 8) (d : Fin 160) : k0_pay9 v36 v41 c14 c15 v51 v57 (ix4 b i h d) = k0_pay7 v36 v41 c14 c15 v51 v57 (ix3 b i ⟨(56 + h.val) * 160 + d.val, by omega⟩) := by
  pointwise [k0_pay9]
  congr 2
  apply Fin.ext
  show 8960 + (h.val * 160 + d.val) = (56 + h.val) * 160 + d.val
  omega
theorem pay10_at (h : Fin 48) (d : Fin 160) : k0_pay10 v36 v41 c14 c15 v51 v57 v81 (ix4 b i h d)
   = nrm (fun d => k0_pay7 v36 v41 c14 c15 v51 v57 (ix3 b i ⟨h.val * 160 + d.val, by omega⟩)) (fun d => v81 (ix1 d)) d := by
  rw [← nrm_def]
  pointwise [k0_pay10]
theorem pay11_at (h : Fin 8) : k0_pay11 v36 v41 c14 c15 v51 v57 (ix4 b i h 0) = ∑ d, k0_pay8 v36 v41 c14 c15 v51 v57 (ix4 b i h d) * k0_pay8 v36 v41 c14 c15 v51 v57 (ix4 b i h d) := by
  pointwise [k0_pay11]
theorem pay12_at (v64 : FVec Ideal S2x128x8x160 .f32) (v84 : FVec Ideal S2x128x8x1 .f32) (h : Fin 8) (d : Fin 160) (e : v84 (ix4 b i h 0) = ∑ d, v64 (ix4 b i h d) * v64 (ix4 b i h d)) :
    k0_pay12 v64 v81 v84 (ix4 b i h d) = nrm (fun d => v64 (ix4 b i h d)) (fun d => v81 (ix1 d)) d := by
  rw [← nrm_def, ← e]
  pointwise [k0_pay12]

attribute [local semireducible] k0_pay13 in
theorem pay13_at (d : Fin 80) : k0_pay13 (F := Ideal) v105 (ix3 b i d) = ang (v105 (ix2 b i)) d := by
  unfold ang
  pointwise [k0_pay13]
theorem pay14_at (d : Fin 80) : k0_pay14 (F := Ideal) v105 (ix4 b i 0 d) = Ideal.cos (ang (v105 (ix2 b i)) d) := by
  rw [← pay13_at]
  pointwise [k0_pay14]
theorem pay15_at (d : Fin 80) : k0_pay15 (F := Ideal) v105 (ix4 b i 0 d) = Ideal.sin (ang (v105 (ix2 b i)) d) := by
  rw [← pay13_at]
  pointwise [k0_pay15]
theorem pay16_at (v80 : FVec Ideal S2x128x48x160 .f32) (h : Fin 48) (d : Fin 160) : k0_pay16 v80 v105 (ix4 b i h d) = rot (fun d => v80 (ix4 b i h d)) (v105 (ix2 b i)) d := by
  pointwise [k0_pay16]
  simp only [pay14_at, pay15_at]
  unfold rot
  split
  · rfl
  · next hd =>
    have e : (⟨80 + (d.val - 80), by omega⟩ : Fin 160) = d := Fin.ext (by show 80 + (d.val - 80) = d.val; omega)
    rw [e]
end heads

section keys
attribute [local irreducible] k0_pay12 k0_pay14 k0_pay15 k0_pay21 k0_pay23 k0_pay28
variable (b : Fin 2) (i : Fin 128) (h : Fin 8) (v114 : FVec Ideal S2x128x1x80 .f32) (v128 v134 v136 : FVec Ideal S2x128x8x80 .f32)
attribute [local semireducible] k0_pay21 in
theorem pay21_at (v64 : FVec Ideal S2x128x8x160 .f32) (v81 : Vec Ideal S160 .f32) (v84 : FVec Ideal S2x128x8x1 .f32) (v105 : Vec Ideal S2x128 .i32) (d : Fin 160) :
    k0_pay21 (k0_pay15 v105) (k0_pay17 v64 v81 v84) (k0_pay19 v64 v81 v84 v105) (k0_pay20 v64 v81 v84 v105) (ix4 b i h d) = rot (fun d => k0_pay12 v64 v81 v84 (ix4 b i h d)) (v105 (ix2 b i)) d := by
  pointwise [k0_pay21, k0_pay17, k0_pay18, k0_pay19, k0_pay20]
  simp only [pay14_at, pay15_at]
  unfold rot
  split
  · rfl
  · next hd =>
    have e : (⟨80 + (d.val - 80), by omega⟩ : Fin 160) = d := Fin.ext (by show 80 + (d.val - 80) = d.val; omega)
    rw [e]
attribute [local semireducible] k0_pay23 in
theorem pay23_at : k0_pay23 v114 v128 v134 v136 (ix4 b i h 0) = expo (amax fun d => k0_pay21 v114 v128 v134 v136 (ix4 b i h d)) := by
  pointwise [k0_pay23]
  simp only [absf_eq]
  unfold amax
  exact expo_def _
theorem pay24_at (d : Fin 160) : k0_pay24 v114 v128 v134 v136 (ix4 b i h d) = code (k0_pay21 v114 v128 v134 v136 (ix4 b i h d)) (k0_pay23 v114 v128 v134 v136 (ix4 b i h 0)) := by
  rw [← code_def]
  pointwise [k0_pay24]
  rw [exp2_eq]
theorem pay25_at : k0_pay25 v114 v128 v134 v136 (ix3 b i h) = Ideal.exp2 (k0_pay23 v114 v128 v134 v136 (ix4 b i h 0)) := by
  pointwise [k0_pay25]
  exact exp2_eq _
theorem pay26_at (v : FVec Ideal S2x128x8x160 .f32) : k0_pay26 v (ix4 b i h 0) = amax fun d => v (ix4 b i h d) := by
  unfold amax
  pointwise [k0_pay26]
  simp only [absf_eq]
attribute [local semireducible] k0_pay28 in
theorem pay28_at (v177 : FVec Ideal S2x128x8x1 .f32) : k0_pay28 v177 (k0_pay27 (F := Ideal)) (ix4 b i h 0) = expo (v177 (ix4 b i h 0)) := by
  pointwise [k0_pay28, k0_pay27]
  exact expo_def _
theorem pay29_at (v66 : FVec Ideal S2x128x8x160 .f32) (v177 v178 : FVec Ideal S2x128x8x1 .f32) (d : Fin 160) : k0_pay29 v66 v177 v178 (ix4 b i h d) = code (v66 (ix4 b i h d)) (k0_pay28 v177 v178 (ix4 b i h 0)) := by
  rw [← code_def]
  pointwise [k0_pay29]
  rw [exp2_eq]
theorem pay30_at (v177 v178 : FVec Ideal S2x128x8x1 .f32) : k0_pay30 v177 v178 (ix3 b i h) = Ideal.exp2 (k0_pay28 v177 v178 (ix4 b i h 0)) := by
  pointwise [k0_pay30]
  exact exp2_eq _
end keys

end Cert.ReferenceIdeal.Hand

end
-- ==== Proof.RefOut.lean ====
/-
  The reference's seven results at an index.
-/
module

public import proofs.«01_k».proof.Proof.RefHead
public import proofs.«01_k».proof.Proof.RefRun

@[expose] public section

set_option maxRecDepth 65536

noncomputable section

namespace Cert.ReferenceIdeal.Hand

open Cert.ReferenceIdeal Cert.ReferenceIdeal.Gen Cert.Quant
open Idealize.ShloMosaic Idealize.ShloMosaic.TcCoe Idealize.ShloMosaic.Tactic

variable (a0 : Vec Ideal S2x128x5120 .bf16) (a1 : Vec Ideal S2x128 .i32) (a2 : Vec Ideal S5120 .f32) (a3 : Vec Ideal S5120x10240 .fp8e4m3) (a4 : Vec Ideal S10240 .f32) (a5 a6 : Vec Ideal S160 .f32)
  (b : Fin 2) (i : Fin 128)

/-- A token's row, the weights and their scales, the norm weights. -/
def ax (j : Fin 5120) : EReal := a0 (ix3 b i j)
def an (j : Fin 5120) : EReal := a2 (ix1 j)
def aw (k : Fin 5120) (n : Fin 10240) : EReal := a3 (ix2 k n)
def asc (n : Fin 10240) : EReal := a4 (ix1 n)
def ah (v : Vec Ideal S160 .f32) (d : Fin 160) : EReal := v (ix1 d)
/-- The heads of a token. -/
abbrev rh (h : Fin 64) : Fin 160 → EReal := yh (ax a0 b i) (an a2) (aw a3) (asc a4) h

theorem p31 : k0_pay31 a0 a1 a2 a3 a4 a5 a6 = k0_pay3 a0 a2 := by
  unfold k0_pay31
  rw [View.ld_unit_zero (S := S2x128x5120) hz0 _ a0, View.ld_unit_zero (S := S5120) hz2 _ a2]
theorem p32 : k0_pay32 a0 a1 a2 a3 a4 a5 a6 = k0_pay4 a0 a2 := by
  unfold k0_pay32
  rw [View.ld_unit_zero (S := S2x128x5120) hz0 _ a0, View.ld_unit_zero (S := S5120) hz2 _ a2]
theorem p33 : k0_pay33 a0 a1 a2 a3 a4 a5 a6 = k0_pay8 (k0_pay3 a0 a2) (k0_pay4 a0 a2) (Scalar.ofBits .f32 0xC3E00000#32) (Scalar.ofBits .f32 0x43E00000#32) a3 a4 := by
  unfold k0_pay33
  rw [p31, p32, View.ld_unit_zero (S := S5120x10240) hz3 _ a3, View.ld_unit_zero (S := S10240) hz4 _ a4]
theorem p34 : k0_pay34 a0 a1 a2 a3 a4 a5 a6 = k0_pay9 (k0_pay3 a0 a2) (k0_pay4 a0 a2) (Scalar.ofBits .f32 0xC3E00000#32) (Scalar.ofBits .f32 0x43E00000#32) a3 a4 := by
  unfold k0_pay34
  rw [p31, p32, View.ld_unit_zero (S := S5120x10240) hz3 _ a3, View.ld_unit_zero (S := S10240) hz4 _ a4]
theorem p35 : k0_pay35 a0 a1 a2 a3 a4 a5 a6 = k0_pay11 (k0_pay3 a0 a2) (k0_pay4 a0 a2) (Scalar.ofBits .f32 0xC3E00000#32) (Scalar.ofBits .f32 0x43E00000#32) a3 a4 := by
  unfold k0_pay35
  rw [p31, p32, View.ld_unit_zero (S := S5120x10240) hz3 _ a3, View.ld_unit_zero (S := S10240) hz4 _ a4]
theorem p36 : k0_pay36 a0 a1 a2 a3 a4 a5 a6 = k0_pay15 a1 := by
  unfold k0_pay36
  rw [View.ld_unit_zero (S := S2x128) hz1 _ a1]
theorem p37 : k0_pay37 a0 a1 a2 a3 a4 a5 a6 = k0_pay17 (k0_pay33 a0 a1 a2 a3 a4 a5 a6) a6 (k0_pay35 a0 a1 a2 a3 a4 a5 a6) := by
  unfold k0_pay37
  rw [View.ld_unit_zero (S := S160) hz5 _ a6]
theorem p38 : k0_pay38 a0 a1 a2 a3 a4 a5 a6 = k0_pay19 (k0_pay33 a0 a1 a2 a3 a4 a5 a6) a6 (k0_pay35 a0 a1 a2 a3 a4 a5 a6) a1 := by
  unfold k0_pay38
  rw [View.ld_unit_zero (S := S160) hz5 _ a6, View.ld_unit_zero (S := S2x128) hz1 _ a1]
theorem p39 : k0_pay39 a0 a1 a2 a3 a4 a5 a6 = k0_pay20 (k0_pay33 a0 a1 a2 a3 a4 a5 a6) a6 (k0_pay35 a0 a1 a2 a3 a4 a5 a6) a1 := by
  unfold k0_pay39
  rw [View.ld_unit_zero (S := S160) hz5 _ a6, View.ld_unit_zero (S := S2x128) hz1 _ a1]
theorem p40 : k0_pay40 a0 a1 a2 a3 a4 a5 a6 = k0_pay26 (k0_pay34 a0 a1 a2 a3 a4 a5 a6) := by
  unfold k0_pay40
  with_reducible rfl
theorem p41 : k0_pay41 a0 a1 a2 a3 a4 a5 a6 = k0_pay27 (F := Ideal) := by
  unfold k0_pay41
  with_reducible rfl

attribute [local irreducible] k0_pay3 k0_pay4 k0_pay5 k0_pay6 k0_pay7 k0_pay8 k0_pay9 k0_pay10 k0_pay11 k0_pay12 k0_pay15 k0_pay16 k0_pay17 k0_pay19 k0_pay20 k0_pay21 k0_pay23 k0_pay24 k0_pay25
  k0_pay26 k0_pay27 k0_pay28 k0_pay29 k0_pay30 k0_pay31 k0_pay32 k0_pay33 k0_pay34 k0_pay35 k0_pay36 k0_pay37 k0_pay38 k0_pay39 k0_pay40 k0_pay41

/-- The products, head by head. -/
theorem prod_head (h : Fin 64) (d : Fin 160) (hn : h.val * 160 + d.val < 10240) : k0_pay7 (k0_pay3 a0 a2) (k0_pay4 a0 a2) (Scalar.ofBits .f32 0xC3E00000#32) (Scalar.ofBits .f32 0x43E00000#32) a3 a4 (ix3 b i ⟨h.val * 160 + d.val, hn⟩)
    = rh a0 a2 a3 a4 b i h d := by
  rw [prods_at]
  unfold rh yh ax an aw asc
  with_reducible rfl

theorem trunc4 (v : FVec Ideal S2x128x48x160 .f32) (j : S2x128x48x160.Idx) : k0_pay22 v j = v j := Eq.trans rfl rfl

theorem G7_at (h : Fin 48) (d : Fin 160) : G7 a0 a1 a2 a3 a4 a5 a6 (ix4 b i h d) = rot (nrm (rh a0 a2 a3 a4 b i ⟨h.val, by omega⟩) (ah a5)) (a1 (ix2 b i)) d := by
  unfold G7
  rw [p31, p32, trunc4, pay16_at]
  congr 1
  funext d
  rw [pay10_at]
  congr 1
  funext d
  exact prod_head a0 a2 a3 a4 b i ⟨h.val, by omega⟩ d _
theorem G8_at (j : Fin 5120) : G8 a0 a1 a2 a3 a4 a5 a6 (ix3 b i j) = hq (ax a0 b i) (an a2) j := by
  unfold G8
  rw [p32, codes_at]
  unfold ax an
  with_reducible rfl
theorem G9_at : G9 a0 a1 a2 a3 a4 a5 a6 (ix2 b i) = hs (ax a0 b i) (an a2) := by
  unfold G9
  rw [p31, scales_at]
  unfold ax an
  with_reducible rfl

/-- A key. -/
def rk (h : Fin 8) : Fin 160 → EReal := rot (nrm (rh a0 a2 a3 a4 b i ⟨48 + h.val, by omega⟩) (ah a6)) (a1 (ix2 b i))

theorem v64_at (h : Fin 8) (d : Fin 160) : k0_pay33 a0 a1 a2 a3 a4 a5 a6 (ix4 b i h d) = rh a0 a2 a3 a4 b i ⟨48 + h.val, by omega⟩ d := by
  rw [p33, pay8_at]
  exact prod_head a0 a2 a3 a4 b i ⟨48 + h.val, by omega⟩ d _
theorem v66_at (h : Fin 8) (d : Fin 160) : k0_pay34 a0 a1 a2 a3 a4 a5 a6 (ix4 b i h d) = rh a0 a2 a3 a4 b i ⟨56 + h.val, by omega⟩ d := by
  rw [p34, pay9_at]
  exact prod_head a0 a2 a3 a4 b i ⟨56 + h.val, by omega⟩ d _
theorem v84_at (h : Fin 8) : k0_pay35 a0 a1 a2 a3 a4 a5 a6 (ix4 b i h 0) = ∑ d, k0_pay33 a0 a1 a2 a3 a4 a5 a6 (ix4 b i h d) * k0_pay33 a0 a1 a2 a3 a4 a5 a6 (ix4 b i h d) := by
  rw [p35, pay11_at, p33]
theorem key_at (h : Fin 8) (d : Fin 160) : k0_pay21 (k0_pay36 a0 a1 a2 a3 a4 a5 a6) (k0_pay37 a0 a1 a2 a3 a4 a5 a6) (k0_pay38 a0 a1 a2 a3 a4 a5 a6) (k0_pay39 a0 a1 a2 a3 a4 a5 a6) (ix4 b i h d)
    = rk a0 a1 a2 a3 a4 a6 b i h d := by
  rw [p36, p37, p38, p39, pay21_at]
  unfold rk
  congr 1
  funext d
  rw [pay12_at a6 b i _ _ h d (v84_at a0 a1 a2 a3 a4 a5 a6 b i h)]
  congr 1
  funext d
  exact v64_at a0 a1 a2 a3 a4 a5 a6 b i h d
theorem keyexp_at (h : Fin 8) : k0_pay23 (k0_pay36 a0 a1 a2 a3 a4 a5 a6) (k0_pay37 a0 a1 a2 a3 a4 a5 a6) (k0_pay38 a0 a1 a2 a3 a4 a5 a6) (k0_pay39 a0 a1 a2 a3 a4 a5 a6) (ix4 b i h 0)
    = expo (amax (rk a0 a1 a2 a3 a4 a6 b i h)) := by
  rw [pay23_at]
  simp only [key_at]
theorem G10_at (h : Fin 8) (d : Fin 160) : G10 a0 a1 a2 a3 a4 a5 a6 (ix4 b i h d) = code (rk a0 a1 a2 a3 a4 a6 b i h d) (expo (amax (rk a0 a1 a2 a3 a4 a6 b i h))) := by
  unfold G10
  rw [pay24_at, key_at, keyexp_at]
theorem G11_at (h : Fin 8) : G11 a0 a1 a2 a3 a4 a5 a6 (ix3 b i h) = Ideal.exp2 (expo (amax (rk a0 a1 a2 a3 a4 a6 b i h))) := by
  unfold G11
  rw [pay25_at, keyexp_at]
theorem valexp_at (h : Fin 8) : k0_pay28 (k0_pay40 a0 a1 a2 a3 a4 a5 a6) (k0_pay41 a0 a1 a2 a3 a4 a5 a6) (ix4 b i h 0) = expo (amax (rh a0 a2 a3 a4 b i ⟨56 + h.val, by omega⟩)) := by
  rw [p40, p41, pay28_at, pay26_at]
  simp only [v66_at]
theorem G12_at (h : Fin 8) (d : Fin 160) : G12 a0 a1 a2 a3 a4 a5 a6 (ix4 b i h d)
    = code (rh a0 a2 a3 a4 b i ⟨56 + h.val, by omega⟩ d) (expo (amax (rh a0 a2 a3 a4 b i ⟨56 + h.val, by omega⟩))) := by
  unfold G12
  rw [pay29_at, valexp_at, v66_at]
theorem G13_at (h : Fin 8) : G13 a0 a1 a2 a3 a4 a5 a6 (ix3 b i h) = Ideal.exp2 (expo (amax (rh a0 a2 a3 a4 b i ⟨56 + h.val, by omega⟩))) := by
  unfold G13
  rw [pay30_at, valexp_at]

end Cert.ReferenceIdeal.Hand

end
-- ==== Proof.Alg.lean ====
/-
  The kernel's results are the reference's: over the extended reals, from the same arguments, the two programs
  leave the same contents in all seven results.
-/
module

public import proofs.«01_k».proof.Defs
public import proofs.«01_k».proof.Proof.Gen.KernelIdeal
public import proofs.«01_k».proof.Proof.Gen.ReferenceIdeal
public import proofs.«01_k».proof.Proof.KEnd
public import proofs.«01_k».proof.Proof.RefOut

@[expose] public section

set_option maxRecDepth 65536

noncomputable section

namespace Cert.Alg

open Cert.Quant Cert.Kernel.Hand Cert.ReferenceIdeal.Hand
open Idealize.ShloMosaic Idealize.ShloMosaic.TcCoe Idealize.SL.Sem

/-- Vectors that agree at every index are equal. -/
theorem ext_48 {t : EltTy} (u v : Vec Ideal Cert.ReferenceIdeal.S2x128x48x160 t) (e : ∀ b i h d, u (ix4 b i h d) = v (ix4 b i h d)) : u = v := by
  funext x
  rw [eq_ix4 x]
  exact e _ _ _ _
theorem ext_8 {t : EltTy} (u v : Vec Ideal Cert.ReferenceIdeal.S2x128x8x160 t) (e : ∀ b i h d, u (ix4 b i h d) = v (ix4 b i h d)) : u = v := by
  funext x
  rw [eq_ix4 x]
  exact e _ _ _ _
theorem ext_q {t : EltTy} (u v : Vec Ideal Cert.ReferenceIdeal.S2x128x5120 t) (e : ∀ b i j, u (ix3 b i j) = v (ix3 b i j)) : u = v := by
  funext x
  rw [eq_ix3 x]
  exact e _ _ _
theorem ext_3 {t : EltTy} (u v : Vec Ideal Cert.ReferenceIdeal.S2x128x8 t) (e : ∀ b i h, u (ix3 b i h) = v (ix3 b i h)) : u = v := by
  funext x
  rw [eq_ix3 x]
  exact e _ _ _
theorem ext_2 {t : EltTy} (u v : Vec Ideal Cert.ReferenceIdeal.S2x128 t) (e : ∀ b i, u (ix2 b i) = v (ix2 b i)) : u = v := by
  funext x
  rw [eq_ix2 x]
  exact e _ _
/-- Equal arguments, equal results. -/
theorem congr7 {α0 α1 α2 α3 α4 α5 α6 β : Type} (f : α0 → α1 → α2 → α3 → α4 → α5 → α6 → β) {a0 b0 : α0} {a1 b1 : α1} {a2 b2 : α2} {a3 b3 : α3} {a4 b4 : α4} {a5 b5 : α5} {a6 b6 : α6}
    (e0 : a0 = b0) (e1 : a1 = b1) (e2 : a2 = b2) (e3 : a3 = b3) (e4 : a4 = b4) (e5 : a5 = b5) (e6 : a6 = b6) : f a0 a1 a2 a3 a4 a5 a6 = f b0 b1 b2 b3 b4 b5 b6 := by
  subst e0 e1 e2 e3 e4 e5 e6
  rfl

section eqs
variable (m : (ℓ : Loc Cert.Kernel.nD Cert.Kernel.τ Cert.Kernel.sig) → Buf (Elt Ideal) ℓ) (c : Dev Cert.Kernel.nD)

/-- The heads of a token agree: the two sides name the same rows. -/
theorem heads (b : Fin 2) (i : Fin 128) (h : Fin 64) : rh (A0 m c) (A2 m c) (A3 m c) (A4 m c) b i h = ha m c b i h := by
  unfold rh ax an aw asc
  with_reducible rfl
theorem row_eq (b : Fin 2) (i : Fin 128) : ax (A0 m c) b i = fun j => A0 m c (ix3 b i j) := by
  funext j
  unfold ax
  with_reducible rfl
theorem norm_eq : an (A2 m c) = fun j => A2 m c (ix1 j) := by
  funext j
  unfold an
  with_reducible rfl
theorem qn_eq : ah (A5 m c) = fun j => A5 m c (ix1 j) := by
  funext j
  unfold ah
  with_reducible rfl
theorem kn_eq : ah (A6 m c) = fun j => A6 m c (ix1 j) := by
  funext j
  unfold ah
  with_reducible rfl
theorem key_eq (b : Fin 2) (i : Fin 128) (h : Fin 8) : rk (A0 m c) (A1 m c) (A2 m c) (A3 m c) (A4 m c) (A6 m c) b i h
    = rot (nrm (ha m c b i ⟨48 + h.val, by omega⟩) (fun d => A6 m c (ix1 d))) (A1 m c (ix2 b i)) := by
  unfold rk
  rw [heads, kn_eq]

attribute [local irreducible] hq hs yh rot nrm code expo amax

theorem eq0 : (G7 (A0 m c) (A1 m c) (A2 m c) (A3 m c) (A4 m c) (A5 m c) (A6 m c) : Vec Ideal Cert.ReferenceIdeal.S2x128x48x160 .bf16) = Wend m (Gr m) c Cert.Kernel.main_v6 := by
  refine ext_48 _ _ fun b i h d => ?_
  refine ((G7_at (A0 m c) (A1 m c) (A2 m c) (A3 m c) (A4 m c) (A5 m c) (A6 m c) b i h d).trans ?_).trans (end6 m c b i h d).symm
  rw [heads, qn_eq]
theorem eq1 : (G8 (A0 m c) (A1 m c) (A2 m c) (A3 m c) (A4 m c) (A5 m c) (A6 m c) : Vec Ideal Cert.ReferenceIdeal.S2x128x5120 .fp8e4m3) = Wend m (Gr m) c Cert.Kernel.main_v7 := by
  refine ext_q _ _ fun b i j => ?_
  refine ((G8_at (A0 m c) (A1 m c) (A2 m c) (A3 m c) (A4 m c) (A5 m c) (A6 m c) b i j).trans ?_).trans (end7 m c b i j).symm
  rw [row_eq, norm_eq]
theorem eq2 : (G9 (A0 m c) (A1 m c) (A2 m c) (A3 m c) (A4 m c) (A5 m c) (A6 m c) : Vec Ideal Cert.ReferenceIdeal.S2x128 .f32) = Wend m (Gr m) c Cert.Kernel.main_v5_2 := by
  refine ext_2 _ _ fun b i => ?_
  refine ((G9_at (A0 m c) (A1 m c) (A2 m c) (A3 m c) (A4 m c) (A5 m c) (A6 m c) b i).trans ?_).trans (end2 m c b i).symm
  rw [row_eq, norm_eq]
theorem eq3 : (G10 (A0 m c) (A1 m c) (A2 m c) (A3 m c) (A4 m c) (A5 m c) (A6 m c) : Vec Ideal Cert.ReferenceIdeal.S2x128x8x160 .fp8e4m3) = Wend m (Gr m) c Cert.Kernel.main_v8 := by
  refine ext_8 _ _ fun b i h d => ?_
  refine ((G10_at (A0 m c) (A1 m c) (A2 m c) (A3 m c) (A4 m c) (A5 m c) (A6 m c) b i h d).trans ?_).trans (end8 m c b i h d).symm
  rw [key_eq]
theorem eq4 : (G11 (A0 m c) (A1 m c) (A2 m c) (A3 m c) (A4 m c) (A5 m c) (A6 m c) : Vec Ideal Cert.ReferenceIdeal.S2x128x8 .f32) = Wend m (Gr m) c Cert.Kernel.main_v9 := by
  refine ext_3 _ _ fun b i h => ?_
  refine ((G11_at (A0 m c) (A1 m c) (A2 m c) (A3 m c) (A4 m c) (A5 m c) (A6 m c) b i h).trans ?_).trans (end9 m c b i h).symm
  rw [key_eq]
theorem eq5 : (G12 (A0 m c) (A1 m c) (A2 m c) (A3 m c) (A4 m c) (A5 m c) (A6 m c) : Vec Ideal Cert.ReferenceIdeal.S2x128x8x160 .fp8e4m3) = Wend m (Gr m) c Cert.Kernel.main_v10 := by
  refine ext_8 _ _ fun b i h d => ?_
  refine ((G12_at (A0 m c) (A1 m c) (A2 m c) (A3 m c) (A4 m c) (A5 m c) (A6 m c) b i h d).trans ?_).trans (end10 m c b i h d).symm
  rw [heads]
theorem eq6 : (G13 (A0 m c) (A1 m c) (A2 m c) (A3 m c) (A4 m c) (A5 m c) (A6 m c) : Vec Ideal Cert.ReferenceIdeal.S2x128x8 .f32) = Wend m (Gr m) c Cert.Kernel.main_v11 := by
  refine ext_3 _ _ fun b i h => ?_
  refine ((G13_at (A0 m c) (A1 m c) (A2 m c) (A3 m c) (A4 m c) (A5 m c) (A6 m c) b i h).trans ?_).trans (end11 m c b i h).symm
  rw [heads]
end eqs

set_option maxHeartbeats 0 in
/-- The value claim. -/
theorem algebraic : Cert.algebraic_KernelIdeal_ReferenceIdeal (hKernelIdeal := Cert.KernelIdeal.Gen.facts) (hReferenceIdeal := Cert.ReferenceIdeal.Gen.facts) := by
  intro m g m' g' _ ha
  refine ⟨fun c => Wend m (Gr m) c Cert.Kernel.main_v6, fun c => Wend m (Gr m) c Cert.Kernel.main_v7, fun c => Wend m (Gr m) c Cert.Kernel.main_v5_2,
    fun c => Wend m (Gr m) c Cert.Kernel.main_v8, fun c => Wend m (Gr m) c Cert.Kernel.main_v9, fun c => Wend m (Gr m) c Cert.Kernel.main_v10,
    fun c => Wend m (Gr m) c Cert.Kernel.main_v11, run_res m g, ?_⟩
  refine (θ_run Cert.ReferenceIdeal.defs _ _).mono (fun _ h c => ?_) (Cert.ReferenceIdeal.Hand.run m' g')
  obtain ⟨h0, h1, h2, h3, h4, h5, h6, k⟩ := h c
  obtain ⟨e0, e1, e2, e3, e4, e5, e6⟩ := ha c
  exact ⟨h0.trans ((congr7 (fun a0 a1 a2 a3 a4 a5 a6 => G7 a0 a1 a2 a3 a4 a5 a6) e0 e1 e2 e3 e4 e5 e6).trans (eq0 m c)), h1.trans ((congr7 (fun a0 a1 a2 a3 a4 a5 a6 => G8 a0 a1 a2 a3 a4 a5 a6) e0 e1 e2 e3 e4 e5 e6).trans (eq1 m c)), h2.trans ((congr7 (fun a0 a1 a2 a3 a4 a5 a6 => G9 a0 a1 a2 a3 a4 a5 a6) e0 e1 e2 e3 e4 e5 e6).trans (eq2 m c)), h3.trans ((congr7 (fun a0 a1 a2 a3 a4 a5 a6 => G10 a0 a1 a2 a3 a4 a5 a6) e0 e1 e2 e3 e4 e5 e6).trans (eq3 m c)), h4.trans ((congr7 (fun a0 a1 a2 a3 a4 a5 a6 => G11 a0 a1 a2 a3 a4 a5 a6) e0 e1 e2 e3 e4 e5 e6).trans (eq4 m c)), h5.trans ((congr7 (fun a0 a1 a2 a3 a4 a5 a6 => G12 a0 a1 a2 a3 a4 a5 a6) e0 e1 e2 e3 e4 e5 e6).trans (eq5 m c)), h6.trans ((congr7 (fun a0 a1 a2 a3 a4 a5 a6 => G13 a0 a1 a2 a3 a4 a5 a6) e0 e1 e2 e3 e4 e5 e6).trans (eq6 m c)), k⟩

end Cert.Alg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameAny
public import proofs.«01_k».proof.Proof.Alg
public import Idealize.ShloMosaic.Adequacy
public import Idealize.ShloMosaic.Init

@[expose] public section

set_option maxRecDepth 65536

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Hand.frame_any m ρ,
    fun m ρ _ => Cert.Kernel.Hand.frame_any m ρ,
    fun m ρ _ => Cert.ReferenceIdeal.Gen.frame m ρ,
    trivial,
    Cert.Alg.algebraic⟩

end Cert.Proof

end
